-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![1024, 65536]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![16384, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def algebraic_KernelIdeal_ClippedIdeal_on_within [hKernelIdeal : Cert.KernelIdeal.Facts] [hClippedIdeal : Cert.ClippedIdeal.Facts] [hOn_within : Cert.On_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![16384, 1024]⟩ 0 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![1024, 4096]⟩ ⟨2, ![1024, 65536]⟩ 1 16 c (m' (((0 : Dev Cert.ClippedIdeal.nD).tc : Thread Cert.ClippedIdeal.nD Cert.ClippedIdeal.τ).loc Cert.ClippedIdeal.main_arg1))
      ∧ m ((c.tc : Thread Cert.KernelIdeal.nD Cert.KernelIdeal.τ).loc Cert.KernelIdeal.main_arg2) = Layout.block ⟨2, ![4096, 1024]⟩ ⟨2, ![65536, 1024]⟩ 0 16 c (m' (((0 : Dev Cert.ClippedIdeal.nD).tc : Thread Cert.ClippedIdeal.nD Cert.ClippedIdeal.τ).loc Cert.ClippedIdeal.main_arg2))) →
    ∃ (v0 : Buf (Elt Ideal) (((0 : Dev Cert.ClippedIdeal.nD).tc : Thread Cert.ClippedIdeal.nD Cert.ClippedIdeal.τ).loc Cert.ClippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 1024]⟩ : Shape).Idx, (Layout.block ⟨2, ![1024, 1024]⟩ ⟨2, ![16384, 1024]⟩ 0 16 c ((Cert.On_within.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)))) : (⟨2, ![1024, 1024]⟩ : Shape).Idx → _) i = 1#1 → r.2.mem ((c.tc : Thread Cert.KernelIdeal.nD Cert.KernelIdeal.τ).loc Cert.KernelIdeal.main_v1) i = (Layout.block ⟨2, ![1024, 1024]⟩ ⟨2, ![16384, 1024]⟩ 0 16 c v0 : (⟨2, ![1024, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![16384, 1024]⟩ : Shape).Idx, (Cert.On_within.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2))) i = 1#1 → r.2.mem (((0 : Dev Cert.ClippedIdeal.nD).tc : Thread Cert.ClippedIdeal.nD Cert.ClippedIdeal.τ).loc Cert.ClippedIdeal.main_v10) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1)
          ∧ r.2.mem (((0 : Dev Cert.ClippedIdeal.nD).tc : Thread Cert.ClippedIdeal.nD Cert.ClippedIdeal.τ).loc Cert.ClippedIdeal.main_arg2) = m' (((0 : Dev Cert.ClippedIdeal.nD).tc : Thread Cert.ClippedIdeal.nD Cert.ClippedIdeal.τ).loc Cert.ClippedIdeal.main_arg2))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within : Cert.On_within.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within (hKernelIdeal := hKernelIdeal) (hClippedIdeal := hClippedIdeal) (hOn_within := hOn_within)
-- ==== On_within.lean ====
abbrev S16384x1024 : Shape := ⟨2, ![16384, 1024]⟩
abbrev S1024x65536 : Shape := ⟨2, ![1024, 65536]⟩
abbrev S65536x1024 : Shape := ⟨2, ![65536, 1024]⟩
abbrev S16384x65536 : Shape := ⟨2, ![16384, 65536]⟩
abbrev S_ : Shape := ⟨0, ![]⟩
abbrev S16384 : Shape := ⟨1, ![16384]⟩
abbrev S16384x1 : Shape := ⟨2, ![16384, 1]⟩

class Facts : Prop where
  bitsLt_bf16_f32 : FTy.bits .bf16 < FTy.bits .f32
  bcast_S_S16384x65536 : S_.BroadcastsInDim S16384x65536 (![] : Fin 0 → Fin S16384x65536.rank)
  reducesTo_S16384x65536_S16384_d1 : S16384x65536.ReducesTo [1] S16384
  h_S_ : 0 < S_.numel
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  dot_S16384x1024_S1024x65536_S16384x65536_1_0_0_1_n_n_wf : DotDims.WF S16384x1024 S1024x65536 S16384x65536 [1] [0] [0] [1] [] []

variable [Facts]

def dot_S16384x1024_S1024x65536_S16384x65536_1_0_0_1_n_n : DotDims S16384x1024 S1024x65536 S16384x65536 where
  lhsContracting := [1]
  rhsContracting := [0]
  lhsNonContracting := [0]
  rhsNonContracting := [1]
  lhsBatch := []
  rhsBatch := []
  wf := dot_S16384x1024_S1024x65536_S16384x65536_1_0_0_1_n_n_wf
def fn {F : FTy → Type} [FloatOps F] (main_arg0 : FVec F S16384x1024 .bf16) (main_arg1 : FVec F S1024x65536 .bf16) (main_arg2 : FVec F S65536x1024 .bf16) : IVec S16384x1024 1 :=
  let main_v0 : FVec F S16384x1024 .f32 := (extf .f32 · bitsLt_bf16_f32) main_arg0
  let main_v1 : FVec F S1024x65536 .f32 := (extf .f32 · bitsLt_bf16_f32) main_arg1
  let main_v2 : FVec F S16384x65536 .f32 := (fun l r => Host.dotGeneral dot_S16384x1024_S1024x65536_S16384x65536_1_0_0_1_n_n none l r) main_v0 main_v1
  let main_v3 : FVec F S16384x65536 .f32 := Host.absf main_v2
  let main_cst : FVec F S_ .f32 := constant S_ .f32 0x42700000#32
  let main_v4 : FVec F S16384x65536 .f32 := broadcastInDim S16384x65536 ![] bcast_S_S16384x65536 main_cst
  let main_v5 : IVec S16384x65536 1 := cmpf .ole main_v3 main_v4
  let main_c : IVec S_ 1 := constantI S_ 1 1#1
  let main_v6 : IVec S16384 1 := (fun x v => Host.reduce IntOp.andi x v reducesTo_S16384x65536_S16384_d1 h_S_) main_v5 main_c
  let main_v7 : IVec S16384x1 1 := broadcastInDim S16384x1 ![0] bcast_S16384_S16384x1_0 main_v6
  let main_v8 : IVec S16384x1024 1 := broadcastInDim S16384x1024 ![0, 1] bcast_S16384x1_S16384x1024_0_1 main_v7
  main_v8
-- ==== Kernel.lean ====
abbrev S1024x1024 : Shape := ⟨2, ![1024, 1024]⟩
abbrev S1024x4096 : Shape := ⟨2, ![1024, 4096]⟩
abbrev S4096x1024 : Shape := ⟨2, ![4096, 1024]⟩
abbrev S2048x1024 : Shape := ⟨2, ![2048, 1024]⟩
abbrev S4 : Shape := ⟨1, ![4]⟩
abbrev S2 : Shape := ⟨1, ![2]⟩
abbrev S_ : Shape := ⟨0, ![]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S4096x1024, .bf16⟩
  | .hbm, ⟨3, _⟩ => ⟨S1024x1024, .f32⟩
  | .local _ .vmem, ⟨0, _⟩ => ⟨S1024x1024, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S4096x1024, .bf16⟩
  | .local _ .vmem, ⟨5, _⟩ => ⟨S2048x1024, .bf16⟩
  | .local _ .vmem, ⟨6, _⟩ => ⟨S2048x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => true
  | ⟨1, _⟩ => true
  | ⟨2, _⟩ => false
  | ⟨3, _⟩ => true
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 4 16 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_15 : BitVec 32 := 1#32
  let v18 : BitVec 32 := Scalar.muli v4 c1_i32_15
  let v19 : BitVec 32 := Scalar.addi c0_i32_16 v18
  v19.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_28 : BitVec 32 := 1#32
  let v30 : BitVec 32 := Scalar.muli v7 c1_i32_28
  let v31 : BitVec 32 := Scalar.addi c0_i32_29 v30
  v31.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_40 : BitVec 32 := 1#32
  let v38 : BitVec 32 := Scalar.muli v4 c1_i32_40
  let v39 : BitVec 32 := Scalar.addi c0_i32_41 v38
  v39.toNat
@[reducible] def k0_t1_loop : Scf.Loop 32 :=
  let c0_i32_46 : BitVec 32 := 0#32
  let c4_i32 : BitVec 32 := 4#32
  let v48 : BitVec 32 := Scalar.addi c0_i32_46 c4_i32
  let c1_i32_47 : BitVec 32 := 1#32
  ⟨c0_i32_46, v48, c1_i32_47⟩
def k0_off1 (k0_t1 : Fin k0_t1_loop.trips) : Fin 2 → Nat :=
  let c0_994 : Index := 0#32
  let c0_i32_46 : BitVec 32 := 0#32
  let c1_i32_47 : BitVec 32 := 1#32
  let arg13 : BitVec 32 := Scf.iv c0_i32_46 c1_i32_47 k0_t1
  let c1024_i32_993 : BitVec 32 := 1024#32
  let v779 : BitVec 32 := Scalar.muli arg13 c1024_i32_993
  let v780 : Index := Scalar.indexCast v779
  ![0, v780.toNat]
def k0_off2 (k0_t1 : Fin k0_t1_loop.trips) : Fin 2 → Nat :=
  let c0_i32_46 : BitVec 32 := 0#32
  let c1_i32_47 : BitVec 32 := 1#32
  let arg13 : BitVec 32 := Scf.iv c0_i32_46 c1_i32_47 k0_t1
  let c1024_i32_996 : BitVec 32 := 1024#32
  let v787 : BitVec 32 := Scalar.muli arg13 c1024_i32_996
  let v788 : Index := Scalar.indexCast v787
  let c0_997 : Index := 0#32
  ![v788.toNat, 0]
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_57 : BitVec 32 := 1#32
  let v54 : BitVec 32 := Scalar.muli v7 c1_i32_57
  let v55 : BitVec 32 := Scalar.addi c0_i32_58 v54
  v55.toNat
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_63 : BitVec 32 := 1#32
  let v60 : BitVec 32 := Scalar.muli v4 c1_i32_63
  let v61 : BitVec 32 := Scalar.addi c0_i32_64 v60
  v61.toNat
def k0_dev8 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_85 : BitVec 32 := 1#32
  let v78 : BitVec 32 := Scalar.muli v4 c1_i32_85
  let v79 : BitVec 32 := Scalar.addi c0_i32_86 v78
  v79.toNat
@[reducible] def k0_t2_loop : Scf.Loop 32 :=
  let c0_i32_92 : BitVec 32 := 0#32
  let c4_i32_93 : BitVec 32 := 4#32
  let v88 : BitVec 32 := Scalar.addi c0_i32_92 c4_i32_93
  let c1_i32_94 : BitVec 32 := 1#32
  ⟨c0_i32_92, v88, c1_i32_94⟩
def k0_off3 (k0_t2 : Fin k0_t2_loop.trips) : Fin 2 → Nat :=
  let c0_994 : Index := 0#32
  let c0_i32_92 : BitVec 32 := 0#32
  let c1_i32_94 : BitVec 32 := 1#32
  let arg13 : BitVec 32 := Scf.iv c0_i32_92 c1_i32_94 k0_t2
  let c1024_i32_993 : BitVec 32 := 1024#32
  let v779 : BitVec 32 := Scalar.muli arg13 c1024_i32_993
  let v780 : Index := Scalar.indexCast v779
  ![0, v780.toNat]
def k0_off4 (k0_t2 : Fin k0_t2_loop.trips) : Fin 2 → Nat :=
  let c0_i32_92 : BitVec 32 := 0#32
  let c1_i32_94 : BitVec 32 := 1#32
  let arg13 : BitVec 32 := Scf.iv c0_i32_92 c1_i32_94 k0_t2
  let c1024_i32_996 : BitVec 32 := 1024#32
  let v787 : BitVec 32 := Scalar.muli arg13 c1024_i32_996
  let v788 : Index := Scalar.indexCast v787
  let c0_997 : Index := 0#32
  ![v788.toNat, 0]
def k0_dev9 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_104 : BitVec 32 := 1#32
  let v94 : BitVec 32 := Scalar.muli v7 c1_i32_104
  let v95 : BitVec 32 := Scalar.addi c0_i32_105 v94
  v95.toNat
def k0_dev10 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_117 : BitVec 32 := 1#32
  let v105 : BitVec 32 := Scalar.muli v7 c1_i32_117
  let v106 : BitVec 32 := Scalar.addi c0_i32_118 v105
  v106.toNat
def k0_dev11 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_123 : BitVec 32 := 1#32
  let v111 : BitVec 32 := Scalar.muli v4 c1_i32_123
  let v112 : BitVec 32 := Scalar.addi c0_i32_124 v111
  v112.toNat
def k0_dev12 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_148 : BitVec 32 := 1#32
  let v129 : BitVec 32 := Scalar.muli v4 c1_i32_148
  let v130 : BitVec 32 := Scalar.addi c0_i32_149 v129
  v130.toNat
@[reducible] def k0_t3_loop : Scf.Loop 32 :=
  let c0_i32_156 : BitVec 32 := 0#32
  let c4_i32_157 : BitVec 32 := 4#32
  let v139 : BitVec 32 := Scalar.addi c0_i32_156 c4_i32_157
  let c1_i32_158 : BitVec 32 := 1#32
  ⟨c0_i32_156, v139, c1_i32_158⟩
def k0_off5 (k0_t3 : Fin k0_t3_loop.trips) : Fin 2 → Nat :=
  let c0_994 : Index := 0#32
  let c0_i32_156 : BitVec 32 := 0#32
  let c1_i32_158 : BitVec 32 := 1#32
  let arg13 : BitVec 32 := Scf.iv c0_i32_156 c1_i32_158 k0_t3
  let c1024_i32_993 : BitVec 32 := 1024#32
  let v779 : BitVec 32 := Scalar.muli arg13 c1024_i32_993
  let v780 : Index := Scalar.indexCast v779
  ![0, v780.toNat]
def k0_off6 (k0_t3 : Fin k0_t3_loop.trips) : Fin 2 → Nat :=
  let c0_i32_156 : BitVec 32 := 0#32
  let c1_i32_158 : BitVec 32 := 1#32
  let arg13 : BitVec 32 := Scf.iv c0_i32_156 c1_i32_158 k0_t3
  let c1024_i32_996 : BitVec 32 := 1024#32
  let v787 : BitVec 32 := Scalar.muli arg13 c1024_i32_996
  let v788 : Index := Scalar.indexCast v787
  let c0_997 : Index := 0#32
  ![v788.toNat, 0]
def k0_dev13 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_168 : BitVec 32 := 1#32
  let v145 : BitVec 32 := Scalar.muli v7 c1_i32_168
  let v146 : BitVec 32 := Scalar.addi c0_i32_169 v145
  v146.toNat
def k0_dev14 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_181 : BitVec 32 := 1#32
  let v156 : BitVec 32 := Scalar.muli v7 c1_i32_181
  let v157 : BitVec 32 := Scalar.addi c0_i32_182 v156
  v157.toNat
def k0_dev15 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_189 : BitVec 32 := 1#32
  let v162 : BitVec 32 := Scalar.muli v4 c1_i32_189
  let v163 : BitVec 32 := Scalar.addi c0_i32_190 v162
  v163.toNat
def k0_dev16 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_214 : BitVec 32 := 1#32
  let v180 : BitVec 32 := Scalar.muli v4 c1_i32_214
  let v181 : BitVec 32 := Scalar.addi c0_i32_215 v180
  v181.toNat
@[reducible] def k0_t4_loop : Scf.Loop 32 :=
  let c0_i32_223 : BitVec 32 := 0#32
  let c4_i32_224 : BitVec 32 := 4#32
  let v190 : BitVec 32 := Scalar.addi c0_i32_223 c4_i32_224
  let c1_i32_225 : BitVec 32 := 1#32
  ⟨c0_i32_223, v190, c1_i32_225⟩
def k0_off7 (k0_t4 : Fin k0_t4_loop.trips) : Fin 2 → Nat :=
  let c0_994 : Index := 0#32
  let c0_i32_223 : BitVec 32 := 0#32
  let c1_i32_225 : BitVec 32 := 1#32
  let arg13 : BitVec 32 := Scf.iv c0_i32_223 c1_i32_225 k0_t4
  let c1024_i32_993 : BitVec 32 := 1024#32
  let v779 : BitVec 32 := Scalar.muli arg13 c1024_i32_993
  let v780 : Index := Scalar.indexCast v779
  ![0, v780.toNat]
def k0_off8 (k0_t4 : Fin k0_t4_loop.trips) : Fin 2 → Nat :=
  let c0_i32_223 : BitVec 32 := 0#32
  let c1_i32_225 : BitVec 32 := 1#32
  let arg13 : BitVec 32 := Scf.iv c0_i32_223 c1_i32_225 k0_t4
  let c1024_i32_996 : BitVec 32 := 1024#32
  let v787 : BitVec 32 := Scalar.muli arg13 c1024_i32_996
  let v788 : Index := Scalar.indexCast v787
  let c0_997 : Index := 0#32
  ![v788.toNat, 0]
def k0_dev17 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_235 : BitVec 32 := 1#32
  let v196 : BitVec 32 := Scalar.muli v7 c1_i32_235
  let v197 : BitVec 32 := Scalar.addi c0_i32_236 v196
  v197.toNat
def k0_dev18 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_248 : BitVec 32 := 1#32
  let v207 : BitVec 32 := Scalar.muli v7 c1_i32_248
  let v208 : BitVec 32 := Scalar.addi c0_i32_249 v207
  v208.toNat
def k0_dev19 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_256 : BitVec 32 := 1#32
  let v213 : BitVec 32 := Scalar.muli v4 c1_i32_256
  let v214 : BitVec 32 := Scalar.addi c0_i32_257 v213
  v214.toNat
def k0_dev20 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_281 : BitVec 32 := 1#32
  let v231 : BitVec 32 := Scalar.muli v4 c1_i32_281
  let v232 : BitVec 32 := Scalar.addi c0_i32_282 v231
  v232.toNat
@[reducible] def k0_t5_loop : Scf.Loop 32 :=
  let c0_i32_290 : BitVec 32 := 0#32
  let c4_i32_291 : BitVec 32 := 4#32
  let v241 : BitVec 32 := Scalar.addi c0_i32_290 c4_i32_291
  let c1_i32_292 : BitVec 32 := 1#32
  ⟨c0_i32_290, v241, c1_i32_292⟩
def k0_off9 (k0_t5 : Fin k0_t5_loop.trips) : Fin 2 → Nat :=
  let c0_994 : Index := 0#32
  let c0_i32_290 : BitVec 32 := 0#32
  let c1_i32_292 : BitVec 32 := 1#32
  let arg13 : BitVec 32 := Scf.iv c0_i32_290 c1_i32_292 k0_t5
  let c1024_i32_993 : BitVec 32 := 1024#32
  let v779 : BitVec 32 := Scalar.muli arg13 c1024_i32_993
  let v780 : Index := Scalar.indexCast v779
  ![0, v780.toNat]
def k0_off10 (k0_t5 : Fin k0_t5_loop.trips) : Fin 2 → Nat :=
  let c0_i32_290 : BitVec 32 := 0#32
  let c1_i32_292 : BitVec 32 := 1#32
  let arg13 : BitVec 32 := Scf.iv c0_i32_290 c1_i32_292 k0_t5
  let c1024_i32_996 : BitVec 32 := 1024#32
  let v787 : BitVec 32 := Scalar.muli arg13 c1024_i32_996
  let v788 : Index := Scalar.indexCast v787
  let c0_997 : Index := 0#32
  ![v788.toNat, 0]
def k0_dev21 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_302 : BitVec 32 := 1#32
  let v247 : BitVec 32 := Scalar.muli v7 c1_i32_302
  let v248 : BitVec 32 := Scalar.addi c0_i32_303 v247
  v248.toNat
def k0_dev22 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_315 : BitVec 32 := 1#32
  let v258 : BitVec 32 := Scalar.muli v7 c1_i32_315
  let v259 : BitVec 32 := Scalar.addi c0_i32_316 v258
  v259.toNat
def k0_dev23 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_323 : BitVec 32 := 1#32
  let v264 : BitVec 32 := Scalar.muli v4 c1_i32_323
  let v265 : BitVec 32 := Scalar.addi c0_i32_324 v264
  v265.toNat
def k0_dev24 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_348 : BitVec 32 := 1#32
  let v282 : BitVec 32 := Scalar.muli v4 c1_i32_348
  let v283 : BitVec 32 := Scalar.addi c0_i32_349 v282
  v283.toNat
@[reducible] def k0_t6_loop : Scf.Loop 32 :=
  let c0_i32_357 : BitVec 32 := 0#32
  let c4_i32_358 : BitVec 32 := 4#32
  let v292 : BitVec 32 := Scalar.addi c0_i32_357 c4_i32_358
  let c1_i32_359 : BitVec 32 := 1#32
  ⟨c0_i32_357, v292, c1_i32_359⟩
def k0_off11 (k0_t6 : Fin k0_t6_loop.trips) : Fin 2 → Nat :=
  let c0_994 : Index := 0#32
  let c0_i32_357 : BitVec 32 := 0#32
  let c1_i32_359 : BitVec 32 := 1#32
  let arg13 : BitVec 32 := Scf.iv c0_i32_357 c1_i32_359 k0_t6
  let c1024_i32_993 : BitVec 32 := 1024#32
  let v779 : BitVec 32 := Scalar.muli arg13 c1024_i32_993
  let v780 : Index := Scalar.indexCast v779
  ![0, v780.toNat]
def k0_off12 (k0_t6 : Fin k0_t6_loop.trips) : Fin 2 → Nat :=
  let c0_i32_357 : BitVec 32 := 0#32
  let c1_i32_359 : BitVec 32 := 1#32
  let arg13 : BitVec 32 := Scf.iv c0_i32_357 c1_i32_359 k0_t6
  let c1024_i32_996 : BitVec 32 := 1024#32
  let v787 : BitVec 32 := Scalar.muli arg13 c1024_i32_996
  let v788 : Index := Scalar.indexCast v787
  let c0_997 : Index := 0#32
  ![v788.toNat, 0]
def k0_dev25 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_369 : BitVec 32 := 1#32
  let v298 : BitVec 32 := Scalar.muli v7 c1_i32_369
  let v299 : BitVec 32 := Scalar.addi c0_i32_370 v298
  v299.toNat
def k0_dev26 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_382 : BitVec 32 := 1#32
  let v309 : BitVec 32 := Scalar.muli v7 c1_i32_382
  let v310 : BitVec 32 := Scalar.addi c0_i32_383 v309
  v310.toNat
def k0_dev27 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_390 : BitVec 32 := 1#32
  let v315 : BitVec 32 := Scalar.muli v4 c1_i32_390
  let v316 : BitVec 32 := Scalar.addi c0_i32_391 v315
  v316.toNat
def k0_dev28 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_415 : BitVec 32 := 1#32
  let v333 : BitVec 32 := Scalar.muli v4 c1_i32_415
  let v334 : BitVec 32 := Scalar.addi c0_i32_416 v333
  v334.toNat
@[reducible] def k0_t7_loop : Scf.Loop 32 :=
  let c0_i32_424 : BitVec 32 := 0#32
  let c4_i32_425 : BitVec 32 := 4#32
  let v343 : BitVec 32 := Scalar.addi c0_i32_424 c4_i32_425
  let c1_i32_426 : BitVec 32 := 1#32
  ⟨c0_i32_424, v343, c1_i32_426⟩
def k0_off13 (k0_t7 : Fin k0_t7_loop.trips) : Fin 2 → Nat :=
  let c0_994 : Index := 0#32
  let c0_i32_424 : BitVec 32 := 0#32
  let c1_i32_426 : BitVec 32 := 1#32
  let arg13 : BitVec 32 := Scf.iv c0_i32_424 c1_i32_426 k0_t7
  let c1024_i32_993 : BitVec 32 := 1024#32
  let v779 : BitVec 32 := Scalar.muli arg13 c1024_i32_993
  let v780 : Index := Scalar.indexCast v779
  ![0, v780.toNat]
def k0_off14 (k0_t7 : Fin k0_t7_loop.trips) : Fin 2 → Nat :=
  let c0_i32_424 : BitVec 32 := 0#32
  let c1_i32_426 : BitVec 32 := 1#32
  let arg13 : BitVec 32 := Scf.iv c0_i32_424 c1_i32_426 k0_t7
  let c1024_i32_996 : BitVec 32 := 1024#32
  let v787 : BitVec 32 := Scalar.muli arg13 c1024_i32_996
  let v788 : Index := Scalar.indexCast v787
  let c0_997 : Index := 0#32
  ![v788.toNat, 0]
def k0_dev29 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_436 : BitVec 32 := 1#32
  let v349 : BitVec 32 := Scalar.muli v7 c1_i32_436
  let v350 : BitVec 32 := Scalar.addi c0_i32_437 v349
  v350.toNat
def k0_dev30 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_449 : BitVec 32 := 1#32
  let v360 : BitVec 32 := Scalar.muli v7 c1_i32_449
  let v361 : BitVec 32 := Scalar.addi c0_i32_450 v360
  v361.toNat
def k0_dev31 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_457 : BitVec 32 := 1#32
  let v366 : BitVec 32 := Scalar.muli v4 c1_i32_457
  let v367 : BitVec 32 := Scalar.addi c0_i32_458 v366
  v367.toNat
def k0_dev32 (d0 : Dev nD) : Nat :=
  let c0_i32_483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_482 : BitVec 32 := 1#32
  let v384 : BitVec 32 := Scalar.muli v4 c1_i32_482
  let v385 : BitVec 32 := Scalar.addi c0_i32_483 v384
  v385.toNat
@[reducible] def k0_t8_loop : Scf.Loop 32 :=
  let c0_i32_491 : BitVec 32 := 0#32
  let c4_i32_492 : BitVec 32 := 4#32
  let v394 : BitVec 32 := Scalar.addi c0_i32_491 c4_i32_492
  let c1_i32_493 : BitVec 32 := 1#32
  ⟨c0_i32_491, v394, c1_i32_493⟩
def k0_off15 (k0_t8 : Fin k0_t8_loop.trips) : Fin 2 → Nat :=
  let c0_994 : Index := 0#32
  let c0_i32_491 : BitVec 32 := 0#32
  let c1_i32_493 : BitVec 32 := 1#32
  let arg13 : BitVec 32 := Scf.iv c0_i32_491 c1_i32_493 k0_t8
  let c1024_i32_993 : BitVec 32 := 1024#32
  let v779 : BitVec 32 := Scalar.muli arg13 c1024_i32_993
  let v780 : Index := Scalar.indexCast v779
  ![0, v780.toNat]
def k0_off16 (k0_t8 : Fin k0_t8_loop.trips) : Fin 2 → Nat :=
  let c0_i32_491 : BitVec 32 := 0#32
  let c1_i32_493 : BitVec 32 := 1#32
  let arg13 : BitVec 32 := Scf.iv c0_i32_491 c1_i32_493 k0_t8
  let c1024_i32_996 : BitVec 32 := 1024#32
  let v787 : BitVec 32 := Scalar.muli arg13 c1024_i32_996
  let v788 : Index := Scalar.indexCast v787
  let c0_997 : Index := 0#32
  ![v788.toNat, 0]
def k0_dev33 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_503 : BitVec 32 := 1#32
  let v400 : BitVec 32 := Scalar.muli v7 c1_i32_503
  let v401 : BitVec 32 := Scalar.addi c0_i32_504 v400
  v401.toNat
def k0_dev34 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_516 : BitVec 32 := 1#32
  let v411 : BitVec 32 := Scalar.muli v7 c1_i32_516
  let v412 : BitVec 32 := Scalar.addi c0_i32_517 v411
  v412.toNat
def k0_dev35 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_524 : BitVec 32 := 1#32
  let v417 : BitVec 32 := Scalar.muli v4 c1_i32_524
  let v418 : BitVec 32 := Scalar.addi c0_i32_525 v417
  v418.toNat
def k0_dev36 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_549 : BitVec 32 := 1#32
  let v435 : BitVec 32 := Scalar.muli v4 c1_i32_549
  let v436 : BitVec 32 := Scalar.addi c0_i32_550 v435
  v436.toNat
@[reducible] def k0_t9_loop : Scf.Loop 32 :=
  let c0_i32_558 : BitVec 32 := 0#32
  let c4_i32_559 : BitVec 32 := 4#32
  let v445 : BitVec 32 := Scalar.addi c0_i32_558 c4_i32_559
  let c1_i32_560 : BitVec 32 := 1#32
  ⟨c0_i32_558, v445, c1_i32_560⟩
def k0_off17 (k0_t9 : Fin k0_t9_loop.trips) : Fin 2 → Nat :=
  let c0_994 : Index := 0#32
  let c0_i32_558 : BitVec 32 := 0#32
  let c1_i32_560 : BitVec 32 := 1#32
  let arg13 : BitVec 32 := Scf.iv c0_i32_558 c1_i32_560 k0_t9
  let c1024_i32_993 : BitVec 32 := 1024#32
  let v779 : BitVec 32 := Scalar.muli arg13 c1024_i32_993
  let v780 : Index := Scalar.indexCast v779
  ![0, v780.toNat]
def k0_off18 (k0_t9 : Fin k0_t9_loop.trips) : Fin 2 → Nat :=
  let c0_i32_558 : BitVec 32 := 0#32
  let c1_i32_560 : BitVec 32 := 1#32
  let arg13 : BitVec 32 := Scf.iv c0_i32_558 c1_i32_560 k0_t9
  let c1024_i32_996 : BitVec 32 := 1024#32
  let v787 : BitVec 32 := Scalar.muli arg13 c1024_i32_996
  let v788 : Index := Scalar.indexCast v787
  let c0_997 : Index := 0#32
  ![v788.toNat, 0]
def k0_dev37 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_570 : BitVec 32 := 1#32
  let v451 : BitVec 32 := Scalar.muli v7 c1_i32_570
  let v452 : BitVec 32 := Scalar.addi c0_i32_571 v451
  v452.toNat
def k0_dev38 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_583 : BitVec 32 := 1#32
  let v462 : BitVec 32 := Scalar.muli v7 c1_i32_583
  let v463 : BitVec 32 := Scalar.addi c0_i32_584 v462
  v463.toNat
def k0_dev39 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_591 : BitVec 32 := 1#32
  let v468 : BitVec 32 := Scalar.muli v4 c1_i32_591
  let v469 : BitVec 32 := Scalar.addi c0_i32_592 v468
  v469.toNat
def k0_dev40 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_616 : BitVec 32 := 1#32
  let v486 : BitVec 32 := Scalar.muli v4 c1_i32_616
  let v487 : BitVec 32 := Scalar.addi c0_i32_617 v486
  v487.toNat
@[reducible] def k0_t10_loop : Scf.Loop 32 :=
  let c0_i32_625 : BitVec 32 := 0#32
  let c4_i32_626 : BitVec 32 := 4#32
  let v496 : BitVec 32 := Scalar.addi c0_i32_625 c4_i32_626
  let c1_i32_627 : BitVec 32 := 1#32
  ⟨c0_i32_625, v496, c1_i32_627⟩
def k0_off19 (k0_t10 : Fin k0_t10_loop.trips) : Fin 2 → Nat :=
  let c0_994 : Index := 0#32
  let c0_i32_625 : BitVec 32 := 0#32
  let c1_i32_627 : BitVec 32 := 1#32
  let arg13 : BitVec 32 := Scf.iv c0_i32_625 c1_i32_627 k0_t10
  let c1024_i32_993 : BitVec 32 := 1024#32
  let v779 : BitVec 32 := Scalar.muli arg13 c1024_i32_993
  let v780 : Index := Scalar.indexCast v779
  ![0, v780.toNat]
def k0_off20 (k0_t10 : Fin k0_t10_loop.trips) : Fin 2 → Nat :=
  let c0_i32_625 : BitVec 32 := 0#32
  let c1_i32_627 : BitVec 32 := 1#32
  let arg13 : BitVec 32 := Scf.iv c0_i32_625 c1_i32_627 k0_t10
  let c1024_i32_996 : BitVec 32 := 1024#32
  let v787 : BitVec 32 := Scalar.muli arg13 c1024_i32_996
  let v788 : Index := Scalar.indexCast v787
  let c0_997 : Index := 0#32
  ![v788.toNat, 0]
def k0_dev41 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_637 : BitVec 32 := 1#32
  let v502 : BitVec 32 := Scalar.muli v7 c1_i32_637
  let v503 : BitVec 32 := Scalar.addi c0_i32_638 v502
  v503.toNat
def k0_dev42 (d0 : Dev nD) : Nat :=
  let c0_i32_651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_650 : BitVec 32 := 1#32
  let v513 : BitVec 32 := Scalar.muli v7 c1_i32_650
  let v514 : BitVec 32 := Scalar.addi c0_i32_651 v513
  v514.toNat
def k0_dev43 (d0 : Dev nD) : Nat :=
  let c0_i32_659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_658 : BitVec 32 := 1#32
  let v519 : BitVec 32 := Scalar.muli v4 c1_i32_658
  let v520 : BitVec 32 := Scalar.addi c0_i32_659 v519
  v520.toNat
def k0_dev44 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_683 : BitVec 32 := 1#32
  let v537 : BitVec 32 := Scalar.muli v4 c1_i32_683
  let v538 : BitVec 32 := Scalar.addi c0_i32_684 v537
  v538.toNat
@[reducible] def k0_t11_loop : Scf.Loop 32 :=
  let c0_i32_692 : BitVec 32 := 0#32
  let c4_i32_693 : BitVec 32 := 4#32
  let v547 : BitVec 32 := Scalar.addi c0_i32_692 c4_i32_693
  let c1_i32_694 : BitVec 32 := 1#32
  ⟨c0_i32_692, v547, c1_i32_694⟩
def k0_off21 (k0_t11 : Fin k0_t11_loop.trips) : Fin 2 → Nat :=
  let c0_994 : Index := 0#32
  let c0_i32_692 : BitVec 32 := 0#32
  let c1_i32_694 : BitVec 32 := 1#32
  let arg13 : BitVec 32 := Scf.iv c0_i32_692 c1_i32_694 k0_t11
  let c1024_i32_993 : BitVec 32 := 1024#32
  let v779 : BitVec 32 := Scalar.muli arg13 c1024_i32_993
  let v780 : Index := Scalar.indexCast v779
  ![0, v780.toNat]
def k0_off22 (k0_t11 : Fin k0_t11_loop.trips) : Fin 2 → Nat :=
  let c0_i32_692 : BitVec 32 := 0#32
  let c1_i32_694 : BitVec 32 := 1#32
  let arg13 : BitVec 32 := Scf.iv c0_i32_692 c1_i32_694 k0_t11
  let c1024_i32_996 : BitVec 32 := 1024#32
  let v787 : BitVec 32 := Scalar.muli arg13 c1024_i32_996
  let v788 : Index := Scalar.indexCast v787
  let c0_997 : Index := 0#32
  ![v788.toNat, 0]
def k0_dev45 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_704 : BitVec 32 := 1#32
  let v553 : BitVec 32 := Scalar.muli v7 c1_i32_704
  let v554 : BitVec 32 := Scalar.addi c0_i32_705 v553
  v554.toNat
def k0_dev46 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_717 : BitVec 32 := 1#32
  let v564 : BitVec 32 := Scalar.muli v7 c1_i32_717
  let v565 : BitVec 32 := Scalar.addi c0_i32_718 v564
  v565.toNat
def k0_dev47 (d0 : Dev nD) : Nat :=
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_725 : BitVec 32 := 1#32
  let v570 : BitVec 32 := Scalar.muli v4 c1_i32_725
  let v571 : BitVec 32 := Scalar.addi c0_i32_726 v570
  v571.toNat
def k0_dev48 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_750 : BitVec 32 := 1#32
  let v588 : BitVec 32 := Scalar.muli v4 c1_i32_750
  let v589 : BitVec 32 := Scalar.addi c0_i32_751 v588
  v589.toNat
@[reducible] def k0_t12_loop : Scf.Loop 32 :=
  let c0_i32_759 : BitVec 32 := 0#32
  let c4_i32_760 : BitVec 32 := 4#32
  let v598 : BitVec 32 := Scalar.addi c0_i32_759 c4_i32_760
  let c1_i32_761 : BitVec 32 := 1#32
  ⟨c0_i32_759, v598, c1_i32_761⟩
def k0_off23 (k0_t12 : Fin k0_t12_loop.trips) : Fin 2 → Nat :=
  let c0_994 : Index := 0#32
  let c0_i32_759 : BitVec 32 := 0#32
  let c1_i32_761 : BitVec 32 := 1#32
  let arg13 : BitVec 32 := Scf.iv c0_i32_759 c1_i32_761 k0_t12
  let c1024_i32_993 : BitVec 32 := 1024#32
  let v779 : BitVec 32 := Scalar.muli arg13 c1024_i32_993
  let v780 : Index := Scalar.indexCast v779
  ![0, v780.toNat]
def k0_off24 (k0_t12 : Fin k0_t12_loop.trips) : Fin 2 → Nat :=
  let c0_i32_759 : BitVec 32 := 0#32
  let c1_i32_761 : BitVec 32 := 1#32
  let arg13 : BitVec 32 := Scf.iv c0_i32_759 c1_i32_761 k0_t12
  let c1024_i32_996 : BitVec 32 := 1024#32
  let v787 : BitVec 32 := Scalar.muli arg13 c1024_i32_996
  let v788 : Index := Scalar.indexCast v787
  let c0_997 : Index := 0#32
  ![v788.toNat, 0]
def k0_dev49 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_781 : BitVec 32 := 1#32
  let v613 : BitVec 32 := Scalar.muli v7 c1_i32_781
  let v614 : BitVec 32 := Scalar.addi c0_i32_782 v613
  v614.toNat
def k0_dev50 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_789 : BitVec 32 := 1#32
  let v619 : BitVec 32 := Scalar.muli v4 c1_i32_789
  let v620 : BitVec 32 := Scalar.addi c0_i32_790 v619
  v620.toNat
def k0_dev51 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_814 : BitVec 32 := 1#32
  let v637 : BitVec 32 := Scalar.muli v4 c1_i32_814
  let v638 : BitVec 32 := Scalar.addi c0_i32_815 v637
  v638.toNat
@[reducible] def k0_t13_loop : Scf.Loop 32 :=
  let c0_i32_823 : BitVec 32 := 0#32
  let c4_i32_824 : BitVec 32 := 4#32
  let v647 : BitVec 32 := Scalar.addi c0_i32_823 c4_i32_824
  let c1_i32_825 : BitVec 32 := 1#32
  ⟨c0_i32_823, v647, c1_i32_825⟩
def k0_off25 (k0_t13 : Fin k0_t13_loop.trips) : Fin 2 → Nat :=
  let c0_994 : Index := 0#32
  let c0_i32_823 : BitVec 32 := 0#32
  let c1_i32_825 : BitVec 32 := 1#32
  let arg13 : BitVec 32 := Scf.iv c0_i32_823 c1_i32_825 k0_t13
  let c1024_i32_993 : BitVec 32 := 1024#32
  let v779 : BitVec 32 := Scalar.muli arg13 c1024_i32_993
  let v780 : Index := Scalar.indexCast v779
  ![0, v780.toNat]
def k0_off26 (k0_t13 : Fin k0_t13_loop.trips) : Fin 2 → Nat :=
  let c0_i32_823 : BitVec 32 := 0#32
  let c1_i32_825 : BitVec 32 := 1#32
  let arg13 : BitVec 32 := Scf.iv c0_i32_823 c1_i32_825 k0_t13
  let c1024_i32_996 : BitVec 32 := 1024#32
  let v787 : BitVec 32 := Scalar.muli arg13 c1024_i32_996
  let v788 : Index := Scalar.indexCast v787
  let c0_997 : Index := 0#32
  ![v788.toNat, 0]
def k0_dev52 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_845 : BitVec 32 := 1#32
  let v662 : BitVec 32 := Scalar.muli v7 c1_i32_845
  let v663 : BitVec 32 := Scalar.addi c0_i32_846 v662
  v663.toNat
def k0_dev53 (d0 : Dev nD) : Nat :=
  let c0_i32_854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_853 : BitVec 32 := 1#32
  let v668 : BitVec 32 := Scalar.muli v4 c1_i32_853
  let v669 : BitVec 32 := Scalar.addi c0_i32_854 v668
  v669.toNat
def k0_dev54 (d0 : Dev nD) : Nat :=
  let c0_i32_879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_878 : BitVec 32 := 1#32
  let v686 : BitVec 32 := Scalar.muli v4 c1_i32_878
  let v687 : BitVec 32 := Scalar.addi c0_i32_879 v686
  v687.toNat
@[reducible] def k0_t14_loop : Scf.Loop 32 :=
  let c0_i32_887 : BitVec 32 := 0#32
  let c4_i32_888 : BitVec 32 := 4#32
  let v696 : BitVec 32 := Scalar.addi c0_i32_887 c4_i32_888
  let c1_i32_889 : BitVec 32 := 1#32
  ⟨c0_i32_887, v696, c1_i32_889⟩
def k0_off27 (k0_t14 : Fin k0_t14_loop.trips) : Fin 2 → Nat :=
  let c0_994 : Index := 0#32
  let c0_i32_887 : BitVec 32 := 0#32
  let c1_i32_889 : BitVec 32 := 1#32
  let arg13 : BitVec 32 := Scf.iv c0_i32_887 c1_i32_889 k0_t14
  let c1024_i32_993 : BitVec 32 := 1024#32
  let v779 : BitVec 32 := Scalar.muli arg13 c1024_i32_993
  let v780 : Index := Scalar.indexCast v779
  ![0, v780.toNat]
def k0_off28 (k0_t14 : Fin k0_t14_loop.trips) : Fin 2 → Nat :=
  let c0_i32_887 : BitVec 32 := 0#32
  let c1_i32_889 : BitVec 32 := 1#32
  let arg13 : BitVec 32 := Scf.iv c0_i32_887 c1_i32_889 k0_t14
  let c1024_i32_996 : BitVec 32 := 1024#32
  let v787 : BitVec 32 := Scalar.muli arg13 c1024_i32_996
  let v788 : Index := Scalar.indexCast v787
  let c0_997 : Index := 0#32
  ![v788.toNat, 0]
def k0_dev55 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_909 : BitVec 32 := 1#32
  let v711 : BitVec 32 := Scalar.muli v7 c1_i32_909
  let v712 : BitVec 32 := Scalar.addi c0_i32_910 v711
  v712.toNat
def k0_dev56 (d0 : Dev nD) : Nat :=
  let c0_i32_918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_917 : BitVec 32 := 1#32
  let v717 : BitVec 32 := Scalar.muli v4 c1_i32_917
  let v718 : BitVec 32 := Scalar.addi c0_i32_918 v717
  v718.toNat
@[reducible] def k0_t15_loop : Scf.Loop 32 :=
  let c0_i32_941 : BitVec 32 := 0#32
  let c4_i32_942 : BitVec 32 := 4#32
  let v737 : BitVec 32 := Scalar.addi c0_i32_941 c4_i32_942
  let c1_i32_943 : BitVec 32 := 1#32
  ⟨c0_i32_941, v737, c1_i32_943⟩
def k0_off29 (k0_t15 : Fin k0_t15_loop.trips) : Fin 2 → Nat :=
  let c0_994 : Index := 0#32
  let c0_i32_941 : BitVec 32 := 0#32
  let c1_i32_943 : BitVec 32 := 1#32
  let arg13 : BitVec 32 := Scf.iv c0_i32_941 c1_i32_943 k0_t15
  let c1024_i32_993 : BitVec 32 := 1024#32
  let v779 : BitVec 32 := Scalar.muli arg13 c1024_i32_993
  let v780 : Index := Scalar.indexCast v779
  ![0, v780.toNat]
def k0_off30 (k0_t15 : Fin k0_t15_loop.trips) : Fin 2 → Nat :=
  let c0_i32_941 : BitVec 32 := 0#32
  let c1_i32_943 : BitVec 32 := 1#32
  let arg13 : BitVec 32 := Scf.iv c0_i32_941 c1_i32_943 k0_t15
  let c1024_i32_996 : BitVec 32 := 1024#32
  let v787 : BitVec 32 := Scalar.muli arg13 c1024_i32_996
  let v788 : Index := Scalar.indexCast v787
  let c0_997 : Index := 0#32
  ![v788.toNat, 0]
def k0_dev57 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_961 : BitVec 32 := 1#32
  let v752 : BitVec 32 := Scalar.muli v4 c1_i32_961
  let v753 : BitVec 32 := Scalar.addi c0_i32_962 v752
  v753.toNat
@[reducible] def k0_t16_loop : Scf.Loop 32 :=
  let c0_i32_985 : BitVec 32 := 0#32
  let c4_i32_986 : BitVec 32 := 4#32
  let v773 : BitVec 32 := Scalar.addi c0_i32_985 c4_i32_986
  let c1_i32_987 : BitVec 32 := 1#32
  ⟨c0_i32_985, v773, c1_i32_987⟩
def k0_off31 (k0_t16 : Fin k0_t16_loop.trips) : Fin 2 → Nat :=
  let c0_994 : Index := 0#32
  let c0_i32_985 : BitVec 32 := 0#32
  let c1_i32_987 : BitVec 32 := 1#32
  let arg13 : BitVec 32 := Scf.iv c0_i32_985 c1_i32_987 k0_t16
  let c1024_i32_993 : BitVec 32 := 1024#32
  let v779 : BitVec 32 := Scalar.muli arg13 c1024_i32_993
  let v780 : Index := Scalar.indexCast v779
  ![0, v780.toNat]
def k0_off32 (k0_t16 : Fin k0_t16_loop.trips) : Fin 2 → Nat :=
  let c0_i32_985 : BitVec 32 := 0#32
  let c1_i32_987 : BitVec 32 := 1#32
  let arg13 : BitVec 32 := Scf.iv c0_i32_985 c1_i32_987 k0_t16
  let c1024_i32_996 : BitVec 32 := 1024#32
  let v787 : BitVec 32 := Scalar.muli arg13 c1024_i32_996
  let v788 : Index := Scalar.indexCast v787
  let c0_997 : Index := 0#32
  ![v788.toNat, 0]
def k0_dev58 (d0 : Dev nD) : Nat :=
  let c0_i32_995_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_994_r0 : BitVec 32 := 1#32
  let v780_r0 : BitVec 32 := Scalar.muli v7 c1_i32_994_r0
  let v781_r0 : BitVec 32 := Scalar.addi c0_i32_995_r0 v780_r0
  v781_r0.toNat
def k0_dev59 (d0 : Dev nD) : Nat :=
  let c0_i32_998_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_997_r0 : BitVec 32 := 1#32
  let v782_r0 : BitVec 32 := Scalar.muli v4 c1_i32_997_r0
  let v783_r0 : BitVec 32 := Scalar.addi c0_i32_998_r0 v782_r0
  v783_r0.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x1024 : Shape := ⟨2, ![16384, 1024]⟩
abbrev S1024x65536 : Shape := ⟨2, ![1024, 65536]⟩
abbrev S65536x1024 : Shape := ⟨2, ![65536, 1024]⟩
abbrev S16384x65536 : Shape := ⟨2, ![16384, 65536]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x65536, .bf16⟩
  | .hbm, ⟨2, _⟩ => ⟨S65536x1024, .bf16⟩
  | .hbm, ⟨3, _⟩ => ⟨S16384x1024, .f32⟩
  | .hbm, ⟨4, _⟩ => ⟨S1024x65536, .f32⟩
  | .hbm, ⟨5, _⟩ => ⟨S65536x1024, .f32⟩
  | .hbm, ⟨6, _⟩ => ⟨S16384x65536, .f32⟩
  | .hbm, ⟨7, _⟩ => ⟨S16384x65536, .f32⟩
  | .hbm, ⟨8, _⟩ => ⟨S16384x65536, .f32⟩
  | .hbm, ⟨9, _⟩ => ⟨S_, .f32⟩
  | .hbm, ⟨10, _⟩ => ⟨S16384x65536, .f32⟩
  | .hbm, ⟨11, _⟩ => ⟨S16384x65536, .f32⟩
  | .hbm, ⟨12, _⟩ => ⟨S16384x65536, .f32⟩
  | .hbm, ⟨13, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ClippedIdeal.lean ====
abbrev S16384x1024 : Shape := ⟨2, ![16384, 1024]⟩
abbrev S1024x65536 : Shape := ⟨2, ![1024, 65536]⟩
abbrev S65536x1024 : Shape := ⟨2, ![65536, 1024]⟩
abbrev S16384x65536 : Shape := ⟨2, ![16384, 65536]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x65536, .bf16⟩
  | .hbm, ⟨2, _⟩ => ⟨S65536x1024, .bf16⟩
  | .hbm, ⟨3, _⟩ => ⟨S16384x1024, .f32⟩
  | .hbm, ⟨4, _⟩ => ⟨S1024x65536, .f32⟩
  | .hbm, ⟨5, _⟩ => ⟨S65536x1024, .f32⟩
  | .hbm, ⟨6, _⟩ => ⟨S16384x65536, .f32⟩
  | .hbm, ⟨7, _⟩ => ⟨S_, .i32⟩
  | .hbm, ⟨8, _⟩ => ⟨S_, .i32⟩
  | .hbm, ⟨9, _⟩ => ⟨S_, .f32⟩
  | .hbm, ⟨10, _⟩ => ⟨S16384x65536, .f32⟩
  | .hbm, ⟨11, _⟩ => ⟨S16384x65536, .f32⟩
  | .hbm, ⟨12, _⟩ => ⟨S_, .f32⟩
  | .hbm, ⟨13, _⟩ => ⟨S16384x65536, .f32⟩
  | .hbm, ⟨14, _⟩ => ⟨S16384x65536, .f32⟩
  | .hbm, ⟨15, _⟩ => ⟨S16384x65536, .f32⟩
  | .hbm, ⟨16, _⟩ => ⟨S16384x65536, .f32⟩
  | .hbm, ⟨17, _⟩ => ⟨S_, .f32⟩
  | .hbm, ⟨18, _⟩ => ⟨S16384x65536, .f32⟩
  | .hbm, ⟨19, _⟩ => ⟨S16384x65536, .f32⟩
  | .hbm, ⟨20, _⟩ => ⟨S16384x65536, .f32⟩
  | .hbm, ⟨21, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Proof.Pieces.lean ====
/-
  The kernel's body as a sequence of iterations.

  The printed body is one long list of operations in which every hop of the ring is written out, with the slot numbers as
  literals. Here the same operations are written once, as functions of the hop number `t`: `enter` (the entry handshake and the
  first copy), `iter t` for the hops 1 … 15, `leave` (the device's own contribution and the result) and `farewell` (the exit
  handshake). `body_eq` says that the printed body is their sequence.
-/
module

public import proofs.«01_k».proof.Proof.Gen.KernelIdeal.Skeleton

@[expose] public section

noncomputable section

namespace Cert.AgRs

open Idealize.ShloMosaic Idealize.SL.Sem
open Cert.KernelIdeal Cert.KernelIdeal.Gen

variable {F : FTy → Type} [FloatOps F]

/-! ## Neighbours, buffers, semaphores -/

/-- The neighbour that device `p` signals first, its predecessor on the ring. -/
abbrev prv (p : Dev nD) : Dev nD := ⟨k0_dev1 p, k0_dev1_lt p⟩
/-- The neighbour that device `p` sends to, its successor on the ring. -/
abbrev nxt (p : Dev nD) : Dev nD := ⟨k0_dev2 p, k0_dev2_lt p⟩

abbrev xM : Memref sig .tc .vmem S1024x1024 .bf16 := Memref.whole cc0_stg0_0
abbrev w1M : Memref sig .tc .vmem S1024x4096 .bf16 := Memref.whole cc0_stg1_0
abbrev w2M : Memref sig .tc .vmem S4096x1024 .bf16 := Memref.whole cc0_stg2_0
abbrev oM : Memref sig .tc .vmem S1024x1024 .f32 := Memref.whole cc0_stg3_0
abbrev xcM : Memref sig .tc .vmem S4096x1024 .bf16 := Memref.whole cc0_scratch0
abbrev arM : Memref sig .tc .vmem S2048x1024 .bf16 := Memref.whole cc0_scratch1
abbrev asM : Memref sig .tc .vmem S2048x1024 .bf16 := Memref.whole cc0_scratch2

theorem inb4 (t : ℕ) : ∀ a, (![1024 * (t % 4), 0] : Fin 2 → Nat) a + S1024x1024.size a ≤ S4096x1024.size a :=
  match t % 4, Nat.mod_lt t (show 4 > 0 by decide) with
  | 0, _ | 1, _ | 2, _ | 3, _ => by decide
theorem inb2 (t : ℕ) : ∀ a, (![1024 * (t % 2), 0] : Fin 2 → Nat) a + S1024x1024.size a ≤ S2048x1024.size a :=
  match t % 2, Nat.mod_lt t (show 2 > 0 by decide) with
  | 0, _ | 1, _ => by decide
theorem inbS4 (t : ℕ) : ∀ a, (![t % 4] : Fin 1 → Nat) a + S1.size a ≤ S4.size a :=
  match t % 4, Nat.mod_lt t (show 4 > 0 by decide) with
  | 0, _ | 1, _ | 2, _ | 3, _ => by decide
theorem inbS2 (t : ℕ) : ∀ a, (![t % 2] : Fin 1 → Nat) a + S1.size a ≤ S2.size a :=
  match t % 2, Nat.mod_lt t (show 2 > 0 by decide) with
  | 0, _ | 1, _ => by decide

/-- The rows of the slot that hop `t` uses, in the four-slot buffer and in a two-slot buffer. -/
abbrev r4 (t : ℕ) : Rect S4096x1024 := Rect.unit (s := S4096x1024) ![1024 * (t % 4), 0] S1024x1024.size (inb4 t)
abbrev r2 (t : ℕ) : Rect S2048x1024 := Rect.unit (s := S2048x1024) ![1024 * (t % 2), 0] S1024x1024.size (inb2 t)
abbrev r1 : Rect S1024x1024 := Rect.unit (s := S1024x1024) ![0, 0] S1024x1024.size inb_S1024x1024_S1024x1024_0_0

theorem words4 (t : ℕ) : (r4 t).WholeWords (EltTy.packing .bf16) := by
  have key : ∀ b, b < 4 → ∀ hb, (Rect.unit (s := S4096x1024) ![1024 * b, 0] S1024x1024.size hb).WholeWords (EltTy.packing .bf16)
    | 0, _, _ => wordsbf16_S4096x1024_S1024x1024_0_0
    | 1, _, _ => wordsbf16_S4096x1024_S1024x1024_1024_0
    | 2, _, _ => wordsbf16_S4096x1024_S1024x1024_2048_0
    | 3, _, _ => wordsbf16_S4096x1024_S1024x1024_3072_0
  exact key _ (Nat.mod_lt _ (by decide)) _
theorem words2 (t : ℕ) : (r2 t).WholeWords (EltTy.packing .bf16) := by
  have key : ∀ b, b < 2 → ∀ hb, (Rect.unit (s := S2048x1024) ![1024 * b, 0] S1024x1024.size hb).WholeWords (EltTy.packing .bf16)
    | 0, _, _ => wordsbf16_S2048x1024_S1024x1024_0_0
    | 1, _, _ => wordsbf16_S2048x1024_S1024x1024_1024_0
  exact key _ (Nat.mod_lt _ (by decide)) _
theorem packed2 (t : ℕ) : (r2 t).PackedRows (EltTy.packing .bf16) := by
  have key : ∀ b, b < 2 → ∀ hb, (Rect.unit (s := S2048x1024) ![1024 * b, 0] S1024x1024.size hb).PackedRows (EltTy.packing .bf16)
    | 0, _, _ => packedbf16_S2048x1024_S1024x1024_0_0
    | 1, _, _ => packedbf16_S2048x1024_S1024x1024_1024_0
  exact key _ (Nat.mod_lt _ (by decide)) _

/-- Hop `t`'s slot of the buffer of blocks of `x`, of the received and of the outgoing partial sums. -/
abbrev xs (t : ℕ) : Memref sig .tc .vmem S1024x1024 .bf16 := xcM.slice (r4 t) (fun _ => rfl)
abbrev ar (s : ℕ) : Memref sig .tc .vmem S1024x1024 .bf16 := arM.slice (r2 s) (fun _ => rfl)
abbrev ao (s : ℕ) : Memref sig .tc .vmem S1024x1024 .bf16 := asM.slice (r2 s) (fun _ => rfl)

theorem xs_words (t : ℕ) : (xs t).view.WordExact := (Memref.isWhole_whole cc0_scratch0).wordExact_slice rfl _ (words4 t)
theorem ar_words (s : ℕ) : (ar s).view.WordExact := (Memref.isWhole_whole cc0_scratch1).wordExact_slice rfl _ (words2 s)
theorem ao_words (s : ℕ) : (ao s).view.WordExact := (Memref.isWhole_whole cc0_scratch2).wordExact_slice rfl _ (words2 s)

/-- Hop `t`'s semaphores: a copy of a block of `x` sent, one received; a copy of a partial sum sent, one received. -/
abbrev xSend (t : ℕ) : DmaSems sig S_ := (cc0_scratch3.slice (Rect.unit (s := S4) ![t % 4] S1.size (inbS4 t)) : DmaSems sig S1).squeeze S_ squeezes_S1_S_
abbrev xRecv (t : ℕ) : DmaSems sig S_ := (cc0_scratch4.slice (Rect.unit (s := S4) ![t % 4] S1.size (inbS4 t)) : DmaSems sig S1).squeeze S_ squeezes_S1_S_
abbrev aSend (s : ℕ) : DmaSems sig S_ := (cc0_scratch5.slice (Rect.unit (s := S2) ![s % 2] S1.size (inbS2 s)) : DmaSems sig S1).squeeze S_ squeezes_S1_S_
abbrev aRecv (s : ℕ) : DmaSems sig S_ := (cc0_scratch6.slice (Rect.unit (s := S2) ![s % 2] S1.size (inbS2 s)) : DmaSems sig S1).squeeze S_ squeezes_S1_S_
/-- The entry handshake's semaphore, the two credit semaphores, the exit handshake's. -/
abbrev barS : Sems sig S_ := SemArray.scalar (sig.barrier 0 rfl)
abbrev xCred : Sems sig S_ := cc0_scratch7
abbrev aCred : Sems sig S_ := cc0_scratch8
abbrev endS : Sems sig S_ := cc0_scoped0

abbrev PROG (F : FTy → Type) [FloatOps F] (α : Type) : Type 1 := Prog (TpuEff nD τ sig (Elt F) Λ₀ .tc) α

/-! ## The operations -/

/-- Wait for hop `t`'s block of `x`. -/
def xArrive (t : ℕ) : PROG F PUnit := Prog.lift (.waitDma2 (xRecv t).sem (xs t) (xs t) (xs_words t) (xs_words t))
/-- Start passing hop `t`'s block on to the successor, as its hop `t + 1`. -/
def xStart (p : Dev nD) (t : ℕ) : PROG F PUnit :=
  Prog.lift (.enqueueDma (xs t) (.remote (Dev.tc (nxt p)) (xs (t + 1)) (.dma (xSend t).sem)) (.dma (xRecv (t + 1)).sem) (xs_words t) (xs_words (t + 1)) ⟨⟨rfl, Or.inl rfl⟩, trivial⟩)
/-- Wait until hop `t`'s block has been read out of its slot. -/
def xDone (t : ℕ) : PROG F PUnit := Prog.lift (.waitDma2 (xSend t).sem (xs (t + 1)) (xs t) (xs_words (t + 1)) (xs_words t))
/-- Read hop `t`'s block. -/
def xLoad (t : ℕ) : PROG F (Vec F S1024x1024 .bf16) := Prog.lift (.load xcM (r4 t).toLoadRect (View.loadsAt_vmem h_S1024x1024))
/-- One trip of the loop over the four column blocks of `W1`. -/
def trip (xb : Vec F S1024x1024 .bf16) (k : Fin k0_t1_loop.trips) (acc : FVec F S1024x1024 .f32) : PROG F (FVec F S1024x1024 .f32) := do
  let a ← Prog.lift (.load w1M (Rect.unit (s := S1024x4096) (k0_off1 k) S1024x1024.size (k0_off1_inb k)).toLoadRect (View.loadsAt_vmem h_S1024x1024))
  let b ← Prog.lift (.load w2M (Rect.unit (s := S4096x1024) (k0_off2 k) S1024x1024.size (k0_off2_inb k)).toLoadRect (View.loadsAt_vmem h_S1024x1024))
  pure (k0_pay3 xb acc a b)
/-- The block's contribution through this device's part of `W1` and `W2`. -/
def contrib (xb : Vec F S1024x1024 .bf16) : PROG F (FVec F S1024x1024 .f32) := Scf.Loop.for k0_t1_loop k0_t1_ok (k0_pay2 (F := F)) (trip xb)
/-- Give the predecessor back the slot of its block. -/
def xGive (p : Dev nD) : PROG F PUnit := semSignalWord (prv p) xCred.sem 1#32
def xGot : PROG F PUnit := semWaitWord xCred.sem 1#32
/-- Wait for partial sum `s`, and read it. -/
def aArrive (s : ℕ) : PROG F PUnit := Prog.lift (.waitDma2 (aRecv s).sem (ao s) (ar s) (ao_words s) (ar_words s))
def aLoad (s : ℕ) : PROG F (Vec F S1024x1024 .bf16) := Prog.lift (.load arM (r2 s).toLoadRect (View.loadsAt_vmem h_S1024x1024))
/-- Give the predecessor back the slot of its partial sum. -/
def aGive (p : Dev nD) : PROG F PUnit := semSignalWord (prv p) aCred.sem 1#32
def aGot : PROG F PUnit := semWaitWord aCred.sem 1#32
/-- Put a partial sum into slot `s`, start its copy, wait until it has been read out. -/
def aPeek (s : ℕ) : PROG F (Vec F S1024x1024 .bf16) := Prog.lift (.load asM (r2 s).toLoadRect (View.loadsAt_vmem h_S1024x1024))
def aPut (s : ℕ) (v : FVec F S1024x1024 .bf16) : PROG F PUnit :=
  Prog.lift (.store asM (r2 s) v Finset.univ (View.stores_vmem h_S1024x1024 ((Memref.isWhole_whole cc0_scratch2).storeExact_slice rfl _ (packed2 s)) (fun _ => rfl)) (.inl rfl))
def aStart (p : Dev nD) (s : ℕ) : PROG F PUnit :=
  Prog.lift (.enqueueDma (ao s) (.remote (Dev.tc (nxt p)) (ar s) (.dma (aSend s).sem)) (.dma (aRecv s).sem) (ao_words s) (ar_words s) ⟨⟨rfl, Or.inl rfl⟩, trivial⟩)
def aDone (s : ℕ) : PROG F PUnit := Prog.lift (.waitDma2 (aSend s).sem (ar s) (ao s) (ar_words s) (ao_words s))

/-! ## The sequence -/

/-- Send partial sum `s`. -/
def aSendOff (p : Dev nD) (s : ℕ) (v : FVec F S1024x1024 .bf16) : PROG F PUnit := do
  let _ ← aPeek s
  aPut s v
  aStart p s
  aDone s

/-- Entry: both neighbours are told that this device is ready, and both are waited for; the device's own block of `x` goes into
    slot 0 and from there to the successor. -/
def enter (p : Dev nD) : PROG F PUnit := do
  semSignalWord (prv p) barS.sem 1#32
  semSignalWord (nxt p) barS.sem 1#32
  semWaitWord barS.sem 2#32
  let v ← Prog.lift (.load xM r1.toLoadRect (View.loadsAt_vmem h_S1024x1024))
  let _ ← xLoad 0
  Prog.lift (.store xcM (r4 0) (k0_pay1 v) Finset.univ (View.stores_vmem h_S1024x1024 ((Memref.isWhole_whole cc0_scratch0).storeExact_slice rfl _ packedbf16_S4096x1024_S1024x1024_0_0) (fun _ => rfl)) (.inl rfl))
  xStart p 0
  xDone 0
  xGive p

/-- First half of hop `t`: its block arrives, is passed on, and its contribution is computed. -/
def hopX (p : Dev nD) (t : ℕ) : PROG F (FVec F S1024x1024 .f32) := do
  xArrive t
  if 3 ≤ t ∧ t ≤ 14 then xGot else pure ⟨⟩
  if t ≤ 14 then xStart p t else pure ⟨⟩
  let xb ← xLoad t
  let c ← contrib xb
  if t ≤ 14 then xDone t else pure ⟨⟩
  if t ≤ 11 then xGive p else pure ⟨⟩
  pure c

/-- Second half of hop `t`: the partial sum of the previous hop arrives, the contribution is added, the result goes on. -/
def hopA (p : Dev nD) (t : ℕ) (c : FVec F S1024x1024 .f32) : PROG F PUnit :=
  if t = 1 then aSendOff p 0 (k0_pay4 c)
  else do
    aArrive (t - 2)
    let a ← aLoad (t - 2)
    if t ≤ 14 then aGive p else pure ⟨⟩
    if 3 ≤ t then aGot else pure ⟨⟩
    aSendOff p (t - 1) (k0_pay7 c a)

def hop (p : Dev nD) (t : ℕ) : PROG F PUnit := do
  let c ← hopX p t
  hopA p t c

/-- The device's own block of `x`, read for its own contribution. -/
def ownX (v : Vec F S1024x1024 .bf16) : Vec F S1024x1024 .bf16 := shapeCast S1024x1024 v shapeCasts_S1024x1024_S1024x1024

/-- The last partial sum arrives; the device's own contribution is added and the result stored. -/
def leave : PROG F PUnit := do
  aArrive 14
  let xb ← Prog.lift (.load xM r1.toLoadRect (View.loadsAt_vmem h_S1024x1024))
  let c ← contrib (ownX xb)
  let a ← aLoad 14
  let _ ← Prog.lift (.load oM r1.toLoadRect (View.loadsAt_vmem h_S1024x1024))
  Prog.lift (.store oM r1 (k0_pay51 c a) Finset.univ (View.stores_vmem_bits_univ h_S1024x1024 rfl) (.inl rfl))

/-- Exit: both neighbours are told that this device is done, and both are waited for. -/
def farewell (p : Dev nD) : PROG F PUnit := do
  semSignalWord (prv p) endS.sem 1#32
  semSignalWord (nxt p) endS.sem 1#32
  semWaitWord endS.sem 2#32

/-- Hops `t`, `t + 1`, …, `n` of them. -/
def hops (p : Dev nD) : ℕ → ℕ → PROG F PUnit
  | _, 0 => pure ⟨⟩
  | t, n + 1 => do hop p t; hops p (t + 1) n

/-- The whole body. -/
def bodyP : PROG F PUnit := do
  let p ← Prog.lift .deviceId
  enter p
  hops p 1 15
  leave
  farewell p

end Cert.AgRs

end
-- ==== Proof.Sched.lean ====
/-
  The protocol: what every semaphore of the kernel counts, and what comes with each count.

  Device `p` sends to its successor `nxt p` and gives slots back to its predecessor `prv p`. Hop `h` of the blocks of `x` lands in
  slot `h mod 4`, partial sum `s` in slot `s mod 2`. A slot is written at most once per hop: the key of hop `h` is `(p, h)`, the key
  of partial sum `s` is `(p, 16 + s)`, and `released` at 1 says that the owner has given the slot up for that one write.

  * A receive semaphore of hop `h` counts, in its round `h / 4`, the block's bytes; with them comes the slot, holding the block.
  * A send semaphore counts the same bytes on the sending side; with them comes the share of the slot the copy was reading.
  * The two credit semaphores count the slots given back. Signals are delivered in no fixed order, so the `j`-th signal carries
    what all signals up to the `j`-th say; after `k + 1` units one of the delivered signals is the `k`-th or a later one.
  * The entry handshake tells the predecessor that the first slots may be written; the exit handshake carries nothing.
-/
module

public import proofs.«01_k».proof.Proof.Pieces
public import proofs.«01_k».proof.Proof.Gen.KernelIdeal.Launch
public import Idealize.ShloMosaic.Lib.Pipeline.Launch
public import Idealize.ShloMosaic.Lib.Pipeline.Kit
public import Idealize.ShloMosaic.Lib.Pipeline.SiteBlocks
public import Idealize.ShloMosaic.Lib.Pipeline.TalkSites
public import Idealize.ShloMosaic.Lib.Release
public import Idealize.ShloMosaic.Lib.MemrefSat
public import Idealize.ShloMosaic.Lib.Tactic

@[expose] public section

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

abbrev Key : Type := Dev nD × ℕ
abbrev UC : Type := URounds (GSem nD τ sig) ℕ
abbrev UU : Type := UR sig nD τ × (UC × USlots Key)

local notation "𝕄" => MT nD τ sig ℕ (Elt F) ℕ UU ℕ

abbrev EP : Emb (UR sig nD τ) (MT nD τ sig ℕ (Elt F) ℕ UU ℕ) := embL
abbrev ER : Emb UC (MT nD τ sig ℕ (Elt F) ℕ UU ℕ) := (Emb.inl : Emb UC (UC × USlots Key)).trans embR
abbrev ES : Emb (USlots Key) (MT nD τ sig ℕ (Elt F) ℕ UU ℕ) := (Emb.inr : Emb (USlots Key) (UC × USlots Key)).trans embR

instance ER_lands : (ER : Emb UC 𝕄).LandsIn (upEmb : UEmb _ 𝕄) := by unfold ER embR; infer_instance
instance ES_lands : (ES : Emb (USlots Key) 𝕄).LandsIn (upEmb : UEmb _ 𝕄) := by unfold ES embR; infer_instance

/-! ## The ring -/

theorem prv_nxt (c : Dev nD) : prv (nxt c) = c := by revert c; decide
theorem nxt_prv (c : Dev nD) : nxt (prv c) = c := by revert c; decide

/-- The device `t` places before `d`. -/
def back : ℕ → Dev nD → Dev nD
  | 0, d => d
  | t + 1, d => back t (prv d)

/-! ## The cells -/

abbrev cXS (d : Dev nD) (t : ℕ) : GSem nD τ sig := ((d : Thread nD τ), .dma (xSend t).sem)
abbrev cXR (d : Dev nD) (t : ℕ) : GSem nD τ sig := ((d : Thread nD τ), .dma (xRecv t).sem)
abbrev cAS (d : Dev nD) (s : ℕ) : GSem nD τ sig := ((d : Thread nD τ), .dma (aSend s).sem)
abbrev cAR (d : Dev nD) (s : ℕ) : GSem nD τ sig := ((d : Thread nD τ), .dma (aRecv s).sem)
abbrev cXC (d : Dev nD) : GSem nD τ sig := ((d : Thread nD τ), .reg xCred.sem)
abbrev cAC (d : Dev nD) : GSem nD τ sig := ((d : Thread nD τ), .reg aCred.sem)
abbrev cBar (d : Dev nD) : GSem nD τ sig := ((d : Thread nD τ), .reg barS.sem)
abbrev cEnd (d : Dev nD) : GSem nD τ sig := ((d : Thread nD τ), .reg endS.sem)

/-- A semaphore's number: the copies' semaphores first, then the regular ones. -/
def code : SemLoc sig → ℕ
  | .dma i => i.val
  | .reg i => 16 + i.val

theorem code_xSend (t : ℕ) : code (.dma (xSend t).sem) = 4 + t % 4 := by
  have key : ∀ b, b < 4 → ∀ hb, code (.dma ((cc0_scratch3.slice (Rect.unit (s := S4) ![b] S1.size hb) : DmaSems sig S1).squeeze S_ squeezes_S1_S_).sem) = 4 + b
    | 0, _, _ => show code (.dma ((cc0_scratch3.slice (Rect.unit (s := S4) ![0] S1.size inb_S4_S1_0) : DmaSems sig S1).squeeze S_ squeezes_S1_S_).sem) = 4 + 0 by decide
    | 1, _, _ => show code (.dma ((cc0_scratch3.slice (Rect.unit (s := S4) ![1] S1.size inb_S4_S1_1) : DmaSems sig S1).squeeze S_ squeezes_S1_S_).sem) = 4 + 1 by decide
    | 2, _, _ => show code (.dma ((cc0_scratch3.slice (Rect.unit (s := S4) ![2] S1.size inb_S4_S1_2) : DmaSems sig S1).squeeze S_ squeezes_S1_S_).sem) = 4 + 2 by decide
    | 3, _, _ => show code (.dma ((cc0_scratch3.slice (Rect.unit (s := S4) ![3] S1.size inb_S4_S1_3) : DmaSems sig S1).squeeze S_ squeezes_S1_S_).sem) = 4 + 3 by decide
  exact key _ (Nat.mod_lt _ (by decide)) _
theorem code_xRecv (t : ℕ) : code (.dma (xRecv t).sem) = 8 + t % 4 := by
  have key : ∀ b, b < 4 → ∀ hb, code (.dma ((cc0_scratch4.slice (Rect.unit (s := S4) ![b] S1.size hb) : DmaSems sig S1).squeeze S_ squeezes_S1_S_).sem) = 8 + b
    | 0, _, _ => show code (.dma ((cc0_scratch4.slice (Rect.unit (s := S4) ![0] S1.size inb_S4_S1_0) : DmaSems sig S1).squeeze S_ squeezes_S1_S_).sem) = 8 + 0 by decide
    | 1, _, _ => show code (.dma ((cc0_scratch4.slice (Rect.unit (s := S4) ![1] S1.size inb_S4_S1_1) : DmaSems sig S1).squeeze S_ squeezes_S1_S_).sem) = 8 + 1 by decide
    | 2, _, _ => show code (.dma ((cc0_scratch4.slice (Rect.unit (s := S4) ![2] S1.size inb_S4_S1_2) : DmaSems sig S1).squeeze S_ squeezes_S1_S_).sem) = 8 + 2 by decide
    | 3, _, _ => show code (.dma ((cc0_scratch4.slice (Rect.unit (s := S4) ![3] S1.size inb_S4_S1_3) : DmaSems sig S1).squeeze S_ squeezes_S1_S_).sem) = 8 + 3 by decide
  exact key _ (Nat.mod_lt _ (by decide)) _
theorem code_aSend (t : ℕ) : code (.dma (aSend t).sem) = 12 + t % 2 := by
  have key : ∀ b, b < 2 → ∀ hb, code (.dma ((cc0_scratch5.slice (Rect.unit (s := S2) ![b] S1.size hb) : DmaSems sig S1).squeeze S_ squeezes_S1_S_).sem) = 12 + b
    | 0, _, _ => show code (.dma ((cc0_scratch5.slice (Rect.unit (s := S2) ![0] S1.size inb_S2_S1_0) : DmaSems sig S1).squeeze S_ squeezes_S1_S_).sem) = 12 + 0 by decide
    | 1, _, _ => show code (.dma ((cc0_scratch5.slice (Rect.unit (s := S2) ![1] S1.size inb_S2_S1_1) : DmaSems sig S1).squeeze S_ squeezes_S1_S_).sem) = 12 + 1 by decide
  exact key _ (Nat.mod_lt _ (by decide)) _
theorem code_aRecv (t : ℕ) : code (.dma (aRecv t).sem) = 14 + t % 2 := by
  have key : ∀ b, b < 2 → ∀ hb, code (.dma ((cc0_scratch6.slice (Rect.unit (s := S2) ![b] S1.size hb) : DmaSems sig S1).squeeze S_ squeezes_S1_S_).sem) = 14 + b
    | 0, _, _ => show code (.dma ((cc0_scratch6.slice (Rect.unit (s := S2) ![0] S1.size inb_S2_S1_0) : DmaSems sig S1).squeeze S_ squeezes_S1_S_).sem) = 14 + 0 by decide
    | 1, _, _ => show code (.dma ((cc0_scratch6.slice (Rect.unit (s := S2) ![1] S1.size inb_S2_S1_1) : DmaSems sig S1).squeeze S_ squeezes_S1_S_).sem) = 14 + 1 by decide
  exact key _ (Nat.mod_lt _ (by decide)) _
theorem code_xCred : code (.reg xCred.sem) = 16 := rfl
theorem code_aCred : code (.reg aCred.sem) = 17 := rfl
theorem code_bar : code (.reg barS.sem) = 18 := rfl
theorem code_end : code (.reg endS.sem) = 19 := rfl

/-! ## Contents -/

/-- The three argument blocks on every device, as the kernel finds them in its staging buffers. -/
structure Ins (F : FTy → Type) [FloatOps F] where
  x : Dev nD → Vec F S1024x1024 .bf16
  w1 : Dev nD → Vec F S1024x4096 .bf16
  w2 : Dev nD → Vec F S4096x1024 .bf16

variable (I : Ins F)

/-- Device `e`'s block of `x` as it travels. -/
def xv (e : Dev nD) : Vec F S1024x1024 .bf16 := k0_pay1 (I.x e)

/-- One trip of the loop on device `d`. -/
def tripV (d : Dev nD) (xb : Vec F S1024x1024 .bf16) (k : Fin k0_t1_loop.trips) (acc : FVec F S1024x1024 .f32) : FVec F S1024x1024 .f32 :=
  k0_pay3 xb acc
    (w1M.view.readAt (Elt F) (Rect.unit (s := S1024x4096) (k0_off1 k) S1024x1024.size (k0_off1_inb k)).toLoadRect (I.w1 d))
    (w2M.view.readAt (Elt F) (Rect.unit (s := S4096x1024) (k0_off2 k) S1024x1024.size (k0_off2_inb k)).toLoadRect (I.w2 d))

/-- The carried value before trip `k`. -/
def tripsV (d : Dev nD) (xb : Vec F S1024x1024 .bf16) : ℕ → FVec F S1024x1024 .f32
  | 0 => k0_pay2
  | k + 1 => if h : k < k0_t1_loop.trips then tripV I d xb ⟨k, h⟩ (tripsV d xb k) else tripsV d xb k

/-- The contribution of a block through device `d`'s part of `W1` and `W2`. -/
def contribV (d : Dev nD) (xb : Vec F S1024x1024 .bf16) : FVec F S1024x1024 .f32 := tripsV I d xb k0_t1_loop.trips

/-- The partial sum that device `d` sends as its `s`-th: the contributions, so far, to the block of the device `s + 1` places before. -/
def psum : ℕ → Dev nD → FVec F S1024x1024 .bf16
  | 0, d => k0_pay4 (contribV I d (xv I (back 1 d)))
  | s + 1, d => k0_pay7 (contribV I d (xv I (back (s + 2) d))) (psum s (prv d))

/-- The result on device `d`. -/
def outV (d : Dev nD) : FVec F S1024x1024 .f32 := k0_pay51 (contribV I d (ownX (I.x d))) (psum I 14 (prv d))

/-! ## What comes with the counts -/

/-- A memref's elements at the full share, at any contents. -/
def fr (d : Dev nD) {sp : Space} {s : Shape} {e : EltTy} (M : Memref sig .tc sp s e) : sProp 𝕄 := slot (M.view.loc (d : Thread nD τ)) M.view.set

instance fr_storable (d : Dev nD) {sp : Space} {s : Shape} {e : EltTy} (M : Memref sig .tc sp s e) :
    BI.Storable (upEmb : UEmb _ 𝕄) (fr (F := F) d M) := by unfold fr; infer_instance

/-- Hop `h`'s slot on device `e` may be written, and its receive semaphore is at the round of that hop; -/
def xok (e : Dev nD) (h : ℕ) : sProp 𝕄 := iprop(released ES (e, h) 1 ∗ reached ER (cXR e h) (h / 4))
/-- the same of partial sum `s`'s slot. -/
def aok (e : Dev nD) (s : ℕ) : sProp 𝕄 := iprop(released ES (e, 16 + s) 1 ∗ reached ER (cAR e s) (s / 2))
/-- What a device says on entering. -/
def ready (e : Dev nD) : sProp 𝕄 := iprop(xok e 1 ∗ xok e 2 ∗ xok e 3 ∗ aok e 0 ∗ aok e 1)

instance xok_persistent (e : Dev nD) (h : ℕ) : BI.Persistent (xok (F := F) e h) := by unfold xok; infer_instance
instance aok_persistent (e : Dev nD) (h : ℕ) : BI.Persistent (aok (F := F) e h) := by unfold aok; infer_instance
instance ready_persistent (e : Dev nD) : BI.Persistent (ready (F := F) e) := by unfold ready; infer_instance
instance xok_storable (e : Dev nD) (h : ℕ) : BI.Storable (upEmb : UEmb _ 𝕄) (xok (F := F) e h) := by unfold xok; infer_instance
instance aok_storable (e : Dev nD) (h : ℕ) : BI.Storable (upEmb : UEmb _ 𝕄) (aok (F := F) e h) := by unfold aok; infer_instance
instance ready_storable (e : Dev nD) : BI.Storable (upEmb : UEmb _ 𝕄) (ready (F := F) e) := by unfold ready; infer_instance

/-- The slot a key stands for. -/
def keySlot (k : Key) : sProp 𝕄 := if k.2 < 16 then fr k.1 (xs k.2) else fr k.1 (ar (k.2 - 16))
instance keySlot_storable (k : Key) : BI.Storable (upEmb : UEmb _ 𝕄) (keySlot (F := F) k) := by unfold keySlot; split <;> infer_instance

/-- The bytes of one block, as the copies' semaphores count them. -/
def NB : ℕ := (xs 0).view.dmaCredit
theorem NB_pos : 0 < NB := View.dmaCredit_pos _ (by decide)

/-- What round `r` of semaphore number `k` of device `d` counts: its duties, -/
def dut (k r : ℕ) : Finset ℕ :=
  if k < 4 then ∅
  else if k < 8 then (if 4 * r + (k - 4) ≤ 14 then {0} else ∅)
  else if k < 12 then (if 1 ≤ 4 * r + (k - 8) ∧ 4 * r + (k - 8) ≤ 15 then {0} else ∅)
  else if k < 14 then (if 2 * r + (k - 12) ≤ 14 then {0} else ∅)
  else if k < 16 then (if 2 * r + (k - 14) ≤ 14 then {0} else ∅)
  else if r = 0 then (if k = 16 then Finset.range 12 else if k = 17 then Finset.range 13 else {0, 1})
  else ∅

/-- and what comes with duty `j`. -/
def pay (d : Dev nD) (k r j : ℕ) : sProp 𝕄 :=
  if k < 8 then owns (d : Thread nD τ) (xs (4 * r + (k - 4))) fullShare.left (xv I (back (4 * r + (k - 4)) d))
  else if k < 12 then owns (d : Thread nD τ) (xs (4 * r + (k - 8))) fullShare (xv I (back (4 * r + (k - 8)) d))
  else if k < 14 then fr d (ao (2 * r + (k - 12)))
  else if k < 16 then owns (d : Thread nD τ) (ar (2 * r + (k - 14))) fullShare (psum I (2 * r + (k - 14)) (prv d))
  else if k = 16 then bigSep (Finset.range (j + 1)) (fun i => xok (nxt d) (i + 4))
  else if k = 17 then bigSep (Finset.range (j + 1)) (fun i => aok (nxt d) (i + 2))
  else if k = 18 then (if j = 0 then ready (nxt d) else iprop(emp))
  else iprop(emp)

def Rd : Rounds.Schedule (GSem nD τ sig) ℕ 𝕄 where
  duties g r := if g.1.2 = .tc then dut (code g.2) r else ∅
  unitless _ := False
  amount g _ _ := if code g.2 < 16 then NB else 1
  payload g r j := pay I g.1.1 (code g.2) r j
  amount_pos g _ _ _ := by
    split
    · exact NB_pos
    · exact Nat.one_pos

instance Rd_storable (g : GSem nD τ sig) (r j : ℕ) : BI.Storable (upEmb : UEmb _ 𝕄) ((Rd I).payload g r j) := by
  show BI.Storable upEmb (pay I g.1.1 (code g.2) r j)
  unfold pay
  (repeat' split) <;> infer_instance

/-! ### Duties -/

section Sched
variable (d : Dev nD)

theorem duties_tc (sm : SemLoc sig) (r : ℕ) : (Rd I).duties ((d : Thread nD τ), sm) r = dut (code sm) r := by
  show (if (d : Thread nD τ).2 = .tc then dut (code sm) r else ∅) = _; exact if_pos rfl

theorem duties_xs (t : ℕ) (h : t ≤ 14) : (Rd I).duties (cXS d t) (t / 4) = {0} := by
  rw [duties_tc, code_xSend]; unfold dut
  rw [if_neg (by omega), if_pos (by omega), if_pos (by omega)]
theorem duties_xr (t : ℕ) (h1 : 1 ≤ t) (h : t ≤ 15) : (Rd I).duties (cXR d t) (t / 4) = {0} := by
  rw [duties_tc, code_xRecv]; unfold dut
  rw [if_neg (by omega), if_neg (by omega), if_pos (by omega), if_pos (by omega)]
theorem duties_as (s : ℕ) (h : s ≤ 14) : (Rd I).duties (cAS d s) (s / 2) = {0} := by
  rw [duties_tc, code_aSend]; unfold dut
  rw [if_neg (by omega), if_neg (by omega), if_neg (by omega), if_pos (by omega), if_pos (by omega)]
theorem duties_ar (s : ℕ) (h : s ≤ 14) : (Rd I).duties (cAR d s) (s / 2) = {0} := by
  rw [duties_tc, code_aRecv]; unfold dut
  rw [if_neg (by omega), if_neg (by omega), if_neg (by omega), if_neg (by omega), if_pos (by omega), if_pos (by omega)]
theorem duties_xc : (Rd I).duties (cXC d) 0 = Finset.range 12 := rfl
theorem duties_ac : (Rd I).duties (cAC d) 0 = Finset.range 13 := rfl
theorem duties_bar : (Rd I).duties (cBar d) 0 = {0, 1} := rfl
theorem duties_end : (Rd I).duties (cEnd d) 0 = {0, 1} := rfl

/-- No round is left after the last one of each semaphore. -/
theorem later_xs (t : ℕ) (h : 15 ≤ t) (r : ℕ) (hr : t / 4 ≤ r) : (Rd I).duties (cXS d t) r = ∅ := by
  rw [duties_tc, code_xSend]; unfold dut
  rw [if_neg (by omega), if_pos (by omega), if_neg (by omega)]
theorem later_xr (t : ℕ) (h : 16 ≤ t) (r : ℕ) (hr : t / 4 ≤ r) : (Rd I).duties (cXR d t) r = ∅ := by
  rw [duties_tc, code_xRecv]; unfold dut
  rw [if_neg (by omega), if_neg (by omega), if_pos (by omega), if_neg (by omega)]
theorem first_xr : (Rd I).duties (cXR d 0) 0 = ∅ := by
  rw [duties_tc, code_xRecv]; rfl
theorem later_as (s : ℕ) (h : 15 ≤ s) (r : ℕ) (hr : s / 2 ≤ r) : (Rd I).duties (cAS d s) r = ∅ := by
  rw [duties_tc, code_aSend]; unfold dut
  rw [if_neg (by omega), if_neg (by omega), if_neg (by omega), if_pos (by omega), if_neg (by omega)]
theorem later_ar (s : ℕ) (h : 15 ≤ s) (r : ℕ) (hr : s / 2 ≤ r) : (Rd I).duties (cAR d s) r = ∅ := by
  rw [duties_tc, code_aRecv]; unfold dut
  rw [if_neg (by omega), if_neg (by omega), if_neg (by omega), if_neg (by omega), if_pos (by omega), if_neg (by omega)]
theorem later_reg (i : Sem sig) (r : ℕ) (hr : 1 ≤ r) : (Rd I).duties ((d : Thread nD τ), .reg i) r = ∅ := by
  rw [duties_tc, show code (.reg i) = 16 + i.val from rfl]; unfold dut
  rw [if_neg (by omega), if_neg (by omega), if_neg (by omega), if_neg (by omega), if_neg (by omega), if_neg (by omega)]

/-! ### Amounts and totals -/

theorem amount_dma (i : DmaSem sig) (hi : i.val < 16) (r j : ℕ) : (Rd I).amount ((d : Thread nD τ), .dma i) r j = NB := if_pos hi
theorem dma_lt (i : DmaSem sig) : i.val < 16 := i.isLt
theorem amount_reg (i : Sem sig) (r j : ℕ) : (Rd I).amount ((d : Thread nD τ), .reg i) r j = 1 := if_neg (by show ¬ 16 + i.val < 16; omega)

theorem expect_one {i : DmaSem sig} {r : ℕ} (h : (Rd I).duties ((d : Thread nD τ), .dma i) r = {0}) :
    (Rd I).expect ((d : Thread nD τ), .dma i) r = NB := by
  unfold Schedule.expect Schedule.amountOf; rw [h, Finset.sum_singleton, amount_dma I d i (dma_lt i)]
theorem expect_reg {i : Sem sig} {r : ℕ} : (Rd I).expect ((d : Thread nD τ), .reg i) r = ((Rd I).duties ((d : Thread nD τ), .reg i) r).card := by
  unfold Schedule.expect Schedule.amountOf
  rw [Finset.sum_congr rfl fun j _ => amount_reg I d i r j, Finset.sum_const, smul_eq_mul, mul_one]

/-! ### Payloads -/

theorem payload_xs (t j : ℕ) : (Rd I).payload (cXS d t) (t / 4) j = owns (d : Thread nD τ) (xs t) fullShare.left (xv I (back t d)) := by
  show pay I d (code (.dma (xSend t).sem)) (t / 4) j = _
  rw [code_xSend]; unfold pay
  rw [if_pos (by omega), show 4 * (t / 4) + (4 + t % 4 - 4) = t by omega]
theorem payload_xr (t j : ℕ) : (Rd I).payload (cXR d t) (t / 4) j = owns (d : Thread nD τ) (xs t) fullShare (xv I (back t d)) := by
  show pay I d (code (.dma (xRecv t).sem)) (t / 4) j = _
  rw [code_xRecv]; unfold pay
  rw [if_neg (by omega), if_pos (by omega), show 4 * (t / 4) + (8 + t % 4 - 8) = t by omega]
theorem payload_as (s j : ℕ) : (Rd I).payload (cAS d s) (s / 2) j = fr d (ao s) := by
  show pay I d (code (.dma (aSend s).sem)) (s / 2) j = _
  rw [code_aSend]; unfold pay
  rw [if_neg (by omega), if_neg (by omega), if_pos (by omega), show 2 * (s / 2) + (12 + s % 2 - 12) = s by omega]
theorem payload_ar (s j : ℕ) : (Rd I).payload (cAR d s) (s / 2) j = owns (d : Thread nD τ) (ar s) fullShare (psum I s (prv d)) := by
  show pay I d (code (.dma (aRecv s).sem)) (s / 2) j = _
  rw [code_aRecv]; unfold pay
  rw [if_neg (by omega), if_neg (by omega), if_neg (by omega), if_pos (by omega), show 2 * (s / 2) + (14 + s % 2 - 14) = s by omega]
theorem payload_xc (r j : ℕ) : (Rd I).payload (cXC d) r j = bigSep (Finset.range (j + 1)) (fun i => xok (nxt d) (i + 4)) := rfl
theorem payload_ac (r j : ℕ) : (Rd I).payload (cAC d) r j = bigSep (Finset.range (j + 1)) (fun i => aok (nxt d) (i + 2)) := rfl
theorem payload_bar0 (r : ℕ) : (Rd I).payload (cBar d) r 0 = ready (nxt d) := rfl
theorem payload_bar1 (r : ℕ) : (Rd I).payload (cBar d) r 1 = iprop(emp) := rfl
theorem payload_end (r j : ℕ) : (Rd I).payload (cEnd d) r j = iprop(emp) := rfl

end Sched

end Cert.AgRs

end
-- ==== Proof.Value.lean ====
/-
  The value over the extended reals. What one device adds for one block of rows of `x` is a sum over its share of the hidden layer; the partial sum that arrives after a whole turn of the ring is the sum of the other devices' shares, so a device's result is the sum over all of them.
-/
module

public import proofs.«01_k».proof.Proof.Sched
public import Idealize.ShloMosaic.Lib.StackMember
public import Idealize.ShloMosaic.Lib.MatmulPlain
public import Idealize.ShloMosaic.Lib.ValueIdxCore
public import Idealize.ShloMosaic.Lib.Pipeline.Value
public import Idealize.ShloMosaic.PureOps.Ideal.Laws

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)
open Idealize.ShloMosaic.ValueIdx

variable (J : Ins Ideal)

/-- The gate of the hidden layer, `h / (1 + e⁻ʰ)`. -/
def silu (h : EReal) : EReal := Ideal.div h (1 + Ideal.exp (-h))

/-- The divisor of the gate is never zero. -/
theorem one_add_exp_ne (h : EReal) : (1 : EReal) + Ideal.exp h ≠ 0 := by
  induction h using EReal.rec with
  | bot => simp
  | top =>
    rw [Ideal.exp_top, EReal.add_top_of_ne_bot (show (1 : EReal) ≠ ⊥ from EReal.coe_ne_bot 1)]
    exact EReal.top_ne_zero
  | coe r =>
    rw [Ideal.exp_coe, ← EReal.coe_one, ← EReal.coe_add]
    have : (0 : ℝ) < 1 + Real.exp r := by positivity
    exact_mod_cast this.ne'

/-- A hidden value times its logistic is the gate. -/
theorem mul_logistic (h : EReal) : h * Ideal.logistic h = silu h := by
  unfold Ideal.logistic silu Ideal.div
  rw [if_neg (one_add_exp_ne _), if_neg (one_add_exp_ne _), one_mul]

theorem dot_plain : dot_S1024x1024_S1024x1024_S1024x1024_1_0_0_1_n_n = DotDims.plain 1024 1024 1024 := rfl

/-- One term of the second product: row `r` of `xb` against column `q` of `a`, through the gate, times an entry of `b`. -/
def term {K Q N : ℕ} {R : ℕ} (xb : (⟨2, ![R, K]⟩ : Shape).Idx → EReal) (a : (⟨2, ![K, Q]⟩ : Shape).Idx → EReal)
    (b : (⟨2, ![Q, N]⟩ : Shape).Idx → EReal) (r : Fin R) (c : Fin N) (q : Fin Q) : EReal :=
  silu (∑ k : Fin K, xb (ix2 r k) * a (ix2 k q)) * b (ix2 q c)

/-- One trip adds the terms of its columns. -/
theorem pay3_apply (xb : Vec Ideal S1024x1024 .bf16) (acc : FVec Ideal S1024x1024 .f32) (a b : Vec Ideal S1024x1024 .bf16) (r c : Fin 1024) :
    k0_pay3 xb acc a b (ix2 r c) = acc (ix2 r c) + ∑ q : Fin 1024, term xb a b r c q := by
  unfold k0_pay3
  simp only [shapeCast_self]
  refine congrArg (acc (ix2 r c) + ·) ?_
  refine (Ideal.matmul_plain_apply (M := 1024) (K := 1024) (N := 1024) (φ₁ := .bf16) (φ₂ := .bf16) none _ _ _ r c).trans ?_
  refine (congrArg (· + _) (show Ideal.ofBits .f32 0x00000000#32 = 0 from Ideal.ofBits_zero_f32)).trans ?_
  rw [zero_add]
  refine Finset.sum_congr rfl fun q _ => congrArg (· * _) ?_
  refine Eq.trans ?_ (mul_logistic _)
  have key : (matmul (φ₁ := .bf16) (φ₂ := .bf16) dot_S1024x1024_S1024x1024_S1024x1024_1_0_0_1_n_n none xb a (constant S1024x1024 .f32 0x00000000#32) : FVec Ideal S1024x1024 .f32) (ix2 r q)
      = ∑ k : Fin 1024, xb (ix2 r k) * a (ix2 k q) := by
    refine (Ideal.matmul_plain_apply (M := 1024) (K := 1024) (N := 1024) (φ₁ := .bf16) (φ₂ := .bf16) none _ _ _ r q).trans ?_
    refine (congrArg (· + _) (show Ideal.ofBits .f32 0x00000000#32 = 0 from Ideal.ofBits_zero_f32)).trans ?_
    rw [zero_add]
  exact congrArg (fun h : EReal => h * Ideal.logistic h) key

/-- A sum over `a * b` places in `a` runs of `b`. -/
theorem sum_runs {M : Type} [AddCommMonoid M] (a b n : ℕ) (hn : n = a * b) (g : Fin n → M)
    (hb : ∀ (t : Fin a) (q : Fin b), t.val * b + q.val < n) :
    ∑ f, g f = ∑ t : Fin a, ∑ q : Fin b, g ⟨t.val * b + q.val, hb t q⟩ := by
  subst hn
  rw [← Fintype.sum_prod_type', ← finProdFinEquiv.sum_comp]
  refine Finset.sum_congr rfl fun p _ => congrArg g (Fin.ext ?_)
  show p.2.val + b * p.1.val = p.1.val * b + p.2.val
  rw [Nat.mul_comm, Nat.add_comm]

theorem off1_eq : ∀ k : Fin k0_t1_loop.trips, k0_off1 k = ![0, k.val * 1024] := by decide
theorem off2_eq : ∀ k : Fin k0_t1_loop.trips, k0_off2 k = ![k.val * 1024, 0] := by decide

theorem trips_eq : k0_t1_loop.trips = 4 := by decide

theorem run_lt (k : Fin k0_t1_loop.trips) (q : Fin 1024) : k.val * 1024 + q.val < 4096 := by
  have h : k.val < 4 := lt_of_lt_of_eq k.isLt trips_eq
  omega

/-- The columns of `W1` that a trip reads. -/
theorem read_w1 (d : Dev nD) (k : Fin k0_t1_loop.trips) (r q : Fin 1024) :
    w1M.view.readAt (Elt Ideal) (Rect.unit (s := S1024x4096) (k0_off1 k) S1024x1024.size (k0_off1_inb k)).toLoadRect (J.w1 d) (ix2 r q)
      = J.w1 d (ix2 r ⟨k.val * 1024 + q.val, run_lt k q⟩) := by
  refine congrArg (J.w1 d) (funext fun a => Fin.ext ?_)
  have e := off1_eq k
  match a with
  | ⟨0, _⟩ =>
    show k0_off1 k 0 + 1 * r.val = r.val
    rw [e]; show 0 + 1 * r.val = r.val; omega
  | ⟨1, _⟩ =>
    show k0_off1 k 1 + 1 * q.val = k.val * 1024 + q.val
    rw [e]; show k.val * 1024 + 1 * q.val = k.val * 1024 + q.val; omega

/-- The rows of `W2` that a trip reads. -/
theorem read_w2 (d : Dev nD) (k : Fin k0_t1_loop.trips) (q c : Fin 1024) :
    w2M.view.readAt (Elt Ideal) (Rect.unit (s := S4096x1024) (k0_off2 k) S1024x1024.size (k0_off2_inb k)).toLoadRect (J.w2 d) (ix2 q c)
      = J.w2 d (ix2 ⟨k.val * 1024 + q.val, run_lt k q⟩ c) := by
  refine congrArg (J.w2 d) (funext fun a => Fin.ext ?_)
  have e := off2_eq k
  match a with
  | ⟨0, _⟩ =>
    show k0_off2 k 0 + 1 * q.val = k.val * 1024 + q.val
    rw [e]; show k.val * 1024 + 1 * q.val = k.val * 1024 + q.val; omega
  | ⟨1, _⟩ =>
    show k0_off2 k 1 + 1 * c.val = c.val
    rw [e]; show 0 + 1 * c.val = c.val; omega

/-- One trip on device `d`, read at an element. -/
theorem tripV_apply (d : Dev nD) (xb : Vec Ideal S1024x1024 .bf16) (k : Fin k0_t1_loop.trips) (acc : FVec Ideal S1024x1024 .f32) (r c : Fin 1024) :
    tripV J d xb k acc (ix2 r c)
      = acc (ix2 r c) + ∑ q : Fin 1024, term (R := 1024) (K := 1024) (Q := 4096) (N := 1024) xb (J.w1 d) (J.w2 d) r c ⟨k.val * 1024 + q.val, run_lt k q⟩ := by
  unfold tripV
  rw [pay3_apply]
  refine congrArg (acc (ix2 r c) + ·) (Finset.sum_congr rfl fun q _ => ?_)
  unfold term
  rw [read_w2]
  refine congrArg (fun h => silu h * _) (Finset.sum_congr rfl fun k' _ => ?_)
  rw [read_w1]

/-- The first `n` trips add the terms of the first `n` runs of columns. -/
theorem tripsV_apply (d : Dev nD) (xb : Vec Ideal S1024x1024 .bf16) (r c : Fin 1024) (g : ℕ → EReal)
    (hg : ∀ k : Fin k0_t1_loop.trips, g k.val = ∑ q : Fin 1024, term (R := 1024) (K := 1024) (Q := 4096) (N := 1024) xb (J.w1 d) (J.w2 d) r c ⟨k.val * 1024 + q.val, run_lt k q⟩) :
    ∀ n, n ≤ k0_t1_loop.trips → tripsV J d xb n (ix2 r c) = ∑ t ∈ Finset.range n, g t
  | 0, _ => by
    rw [Finset.sum_range_zero]
    exact Ideal.ofBits_zero_f32
  | n + 1, h => by
    have h' : n < k0_t1_loop.trips := h
    rw [Finset.sum_range_succ, tripsV, dif_pos h', tripV_apply, tripsV_apply d xb r c g hg n (le_of_lt h'), hg ⟨n, h'⟩]

/-- What device `d` adds for the rows `xb`: the sum over its 4096 columns of the hidden layer. -/
theorem contrib_apply (d : Dev nD) (xb : Vec Ideal S1024x1024 .bf16) (r c : Fin 1024) :
    contribV J d xb (ix2 r c) = ∑ f : Fin 4096, term (R := 1024) (K := 1024) (Q := 4096) (N := 1024) xb (J.w1 d) (J.w2 d) r c f := by
  unfold contribV
  rw [tripsV_apply J d xb r c
    (fun t => if h : t < k0_t1_loop.trips then ∑ q : Fin 1024, term (R := 1024) (K := 1024) (Q := 4096) (N := 1024) xb (J.w1 d) (J.w2 d) r c ⟨t * 1024 + q.val, run_lt ⟨t, h⟩ q⟩ else 0)
    (fun k => dif_pos k.isLt) _ le_rfl, Finset.sum_range, sum_runs k0_t1_loop.trips 1024 4096 (by decide) _ (fun t q => run_lt t q)]
  exact Finset.sum_congr rfl fun t _ => dif_pos t.isLt

/-! ## Round the ring -/

/-- Device `e`'s share of the result for the rows of device `d`. -/
def share (e d : Dev nD) : FVec Ideal S1024x1024 .f32 := contribV J e (J.x d)

theorem xv_eq (e : Dev nD) : xv J e = J.x e := by
  unfold xv k0_pay1
  simp only [shapeCast_self]

theorem back_prv (d : Dev nD) : ∀ t, back t (prv d) = back (t + 1) d := fun _ => rfl

/-- The partial sum that device `d` sends on after `s + 1` steps holds the shares of `s + 1` devices, from `d` back, for one block of rows. -/
theorem psum_apply (i : S1024x1024.Idx) : ∀ (s : ℕ) (d : Dev nD),
    psum J s d i = ∑ t ∈ Finset.range (s + 1), share J (back t d) (back (s + 1) d) i
  | 0, d => by
    rw [Finset.sum_range_one]
    show k0_pay4 (contribV J d (xv J (back 1 d))) i = _
    unfold k0_pay4
    simp only [shapeCast_self, xv_eq]
    rfl
  | s + 1, d => by
    rw [Finset.sum_range_succ']
    have ih := psum_apply i s (prv d)
    show k0_pay7 (contribV J d (xv J (back (s + 2) d))) (psum J s (prv d)) i = _
    unfold k0_pay7
    simp only [shapeCast_self, xv_eq]
    show psum J s (prv d) i + contribV J d (J.x (back (s + 2) d)) i = _
    rw [ih]
    rfl

theorem back_turn : ∀ d : Dev nD, back 16 d = d := by decide
theorem back_inj : ∀ (d : Dev nD) (s t : Fin 16), back s.val d = back t.val d → s = t := by decide

/-- Going back sixteen times meets every device once. -/
theorem sum_back {M : Type} [AddCommMonoid M] (d : Dev nD) (g : Dev nD → M) : ∑ t ∈ Finset.range 16, g (back t d) = ∑ e : Dev nD, g e := by
  rw [Finset.sum_range]
  have hi : Function.Injective (fun t : Fin 16 => back t.val d) := fun s t h => back_inj d s t h
  have hb : Function.Bijective (fun t : Fin 16 => (back t.val d : Fin 16)) := Finite.injective_iff_bijective.mp hi
  exact (Equiv.ofBijective _ hb).sum_comp (fun e : Fin 16 => g e)

/-- A device's result is the sum of all devices' shares for its rows. -/
theorem outV_apply (d : Dev nD) (i : S1024x1024.Idx) : outV J d i = ∑ e : Dev nD, share J e d i := by
  have h : outV J d i = psum J 14 (prv d) i + share J d d i := by
    unfold outV k0_pay51 ownX
    simp only [shapeCast_self]
    rfl
  rw [h, psum_apply, ← sum_back d (fun e => share J e d i), Finset.sum_range_succ' _ 15]
  have e : back 15 (prv d) = d := back_turn d
  refine congrArg₂ (· + ·) (Finset.sum_congr rfl fun t _ => ?_) rfl
  show share J (back t (prv d)) (back 15 (prv d)) i = _
  rw [e]; rfl

/-- A device's result, read at an element. -/
theorem out_apply (d : Dev nD) (r c : Fin 1024) :
    outV J d (ix2 r c) = ∑ e : Dev nD, ∑ f : Fin 4096, term (R := 1024) (K := 1024) (Q := 4096) (N := 1024) (J.x d) (J.w1 e) (J.w2 e) r c f := by
  rw [outV_apply]
  exact Finset.sum_congr rfl fun e _ => contrib_apply J e (J.x d) r c

end Cert.AgRs
end
-- ==== Proof.Ref.lean ====
/-
  The run of the reference: the value its operations leave in the result array.
-/
module

public import proofs.«01_k».proof.Defs
public import proofs.«01_k».proof.Proof.Gen.ReferenceIdeal
public import Idealize.ShloMosaic.Lib.StableHlo.Run

@[expose] public section

set_option maxRecDepth 8000

noncomputable section

namespace Cert.AgRs.Ref

open Cert.ReferenceIdeal Cert.ReferenceIdeal.Gen
open Idealize.ShloMosaic Idealize.ShloMosaic.TcCoe Idealize.ShloMosaic.StableHlo Idealize.SL.Sem

variable {F : FTy → Type} [FloatOps F]

/-- `x · W1`, the whole of it. -/
def hid (x : FVec F S16384x1024 .bf16) (w1 : FVec F S1024x65536 .bf16) : FVec F S16384x65536 .f32 :=
  Host.dotGeneral dot_S16384x1024_S1024x65536_S16384x65536_1_0_0_1_n_n none (extf .f32 x bitsLt_bf16_f32) (extf .f32 w1 bitsLt_bf16_f32)

/-- The hidden layer through its gate. -/
def gate (h : FVec F S16384x65536 .f32) : FVec F S16384x65536 .f32 :=
  Host.divf h (addf (broadcastInDim S16384x65536 ![] bcast_S_S16384x65536 (constant S_ .f32 0x3F800000#32)) (Host.exp (Host.negf h)))

/-- The reference's result. -/
def refOut (x : FVec F S16384x1024 .bf16) (w1 : FVec F S1024x65536 .bf16) (w2 : FVec F S65536x1024 .bf16) : FVec F S16384x1024 .f32 :=
  Host.dotGeneral dot_S16384x65536_S65536x1024_S16384x1024_1_0_0_1_n_n none (gate (hid x w1)) (extf .f32 w2 bitsLt_bf16_f32)

/-- @main's operations, in order. -/
abbrev ops : List (HloOp τ sig (Elt F)) :=
  [ unary main_arg0 main_v0 ((extf .f32 · bitsLt_bf16_f32) : (⟨S16384x1024, .bf16⟩ : BufTy).Contents (Elt F) → (⟨S16384x1024, .f32⟩ : BufTy).Contents (Elt F)),
    unary main_arg1 main_v1 ((extf .f32 · bitsLt_bf16_f32) : (⟨S1024x65536, .bf16⟩ : BufTy).Contents (Elt F) → (⟨S1024x65536, .f32⟩ : BufTy).Contents (Elt F)),
    unary main_arg2 main_v2 ((extf .f32 · bitsLt_bf16_f32) : (⟨S65536x1024, .bf16⟩ : BufTy).Contents (Elt F) → (⟨S65536x1024, .f32⟩ : BufTy).Contents (Elt F)),
    binary main_v0 main_v1 main_v3 ((fun l r => Host.dotGeneral dot_S16384x1024_S1024x65536_S16384x65536_1_0_0_1_n_n none l r) : (⟨S16384x1024, .f32⟩ : BufTy).Contents (Elt F) → (⟨S1024x65536, .f32⟩ : BufTy).Contents (Elt F) → (⟨S16384x65536, .f32⟩ : BufTy).Contents (Elt F)),
    unary main_v3 main_v4 (Host.negf : (⟨S16384x65536, .f32⟩ : BufTy).Contents (Elt F) → (⟨S16384x65536, .f32⟩ : BufTy).Contents (Elt F)),
    unary main_v4 main_v5 (Host.exp : (⟨S16384x65536, .f32⟩ : BufTy).Contents (Elt F) → (⟨S16384x65536, .f32⟩ : BufTy).Contents (Elt F)),
    nullary main_cst (constant S_ .f32 0x3F800000#32),
    unary main_cst main_v6 (broadcastInDim S16384x65536 ![] bcast_S_S16384x65536 : (⟨S_, .f32⟩ : BufTy).Contents (Elt F) → (⟨S16384x65536, .f32⟩ : BufTy).Contents (Elt F)),
    binary main_v6 main_v5 main_v7 (addf : (⟨S16384x65536, .f32⟩ : BufTy).Contents (Elt F) → (⟨S16384x65536, .f32⟩ : BufTy).Contents (Elt F) → (⟨S16384x65536, .f32⟩ : BufTy).Contents (Elt F)),
    binary main_v3 main_v7 main_v8 (Host.divf : (⟨S16384x65536, .f32⟩ : BufTy).Contents (Elt F) → (⟨S16384x65536, .f32⟩ : BufTy).Contents (Elt F) → (⟨S16384x65536, .f32⟩ : BufTy).Contents (Elt F)),
    binary main_v8 main_v2 main_v9 ((fun l r => Host.dotGeneral dot_S16384x65536_S65536x1024_S16384x1024_1_0_0_1_n_n none l r) : (⟨S16384x65536, .f32⟩ : BufTy).Contents (Elt F) → (⟨S65536x1024, .f32⟩ : BufTy).Contents (Elt F) → (⟨S16384x1024, .f32⟩ : BufTy).Contents (Elt F)) ]

theorem main_eq (c : Dev nD) : main (F := F) c = seq ops := rfl

theorem out_eq (V : Valuation τ sig (Elt F)) :
    after ops V (main_v9 : DevRef τ sig) = refOut (V (main_arg0 : DevRef τ sig)) (V (main_arg1 : DevRef τ sig)) (V (main_arg2 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., binary_bufs_sub .., unary_bufs_sub .., unary_bufs_sub .., nullary_bufs_sub .., unary_bufs_sub ..,
    binary_bufs_sub .., binary_bufs_sub .., binary_bufs_sub ..⟩

/-- Every run of the reference ends with the result array at `refOut` of the arguments, which are unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v9)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v9).trans (out_eq _), (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.AgRs.Ref

end
-- ==== Proof.RefValue.lean ====
/-
  The reference's result over the extended reals, read at an element: the sum over the whole hidden layer; and that sum cut into the sixteen devices' shares.
-/
module

public import proofs.«01_k».proof.Proof.Value
public import proofs.«01_k».proof.Proof.Ref
public import Idealize.ShloMosaic.Lib.Layout
public import Idealize.ShloMosaic.Lib.IdealHost

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)
open Idealize.ShloMosaic.ValueIdx

variable (J : Ins Ideal)

/-- The constant of the gate is one. -/
theorem one_word : Ideal.ofBits .f32 0x3F800000#32 = 1 :=
  Ideal.ofBits_one_f32

/-- The reference's first product, read at an element. -/
theorem hid_apply (X : FVec Ideal Cert.ReferenceIdeal.S16384x1024 .bf16) (W : FVec Ideal Cert.ReferenceIdeal.S1024x65536 .bf16) (r : Fin 16384) (f : Fin 65536) :
    Ref.hid X W (ix2 r f) = ∑ k : Fin 1024, X (ix2 r k) * W (ix2 k f) :=
  StackMember.dotGeneral_plain_apply (m := 16384) (n := 65536) (k := 1024) (φ₁ := .f32) (φ₂ := .f32) none _ _ r f

/-- The reference's gate, read at an element. -/
theorem gate_apply (h : FVec Ideal Cert.ReferenceIdeal.S16384x65536 .f32) (i : Cert.ReferenceIdeal.S16384x65536.Idx) : Ref.gate h i = silu (h i) := by
  show Ideal.div (h i) (Ideal.ofBits .f32 0x3F800000#32 + Ideal.exp (-(h i))) = _
  rw [one_word]; rfl

/-- The reference's result, read at an element. -/
theorem refOut_apply (X : FVec Ideal Cert.ReferenceIdeal.S16384x1024 .bf16) (W : FVec Ideal Cert.ReferenceIdeal.S1024x65536 .bf16)
    (V : FVec Ideal Cert.ReferenceIdeal.S65536x1024 .bf16) (r : Fin 16384) (c : Fin 1024) :
    Ref.refOut X W V (ix2 r c) = ∑ f : Fin 65536, term (R := 16384) (K := 1024) (Q := 65536) (N := 1024) X W V r c f := by
  refine (StackMember.dotGeneral_plain_apply (m := 16384) (n := 1024) (k := 65536) (φ₁ := .f32) (φ₂ := .f32) none _ _ r c).trans ?_
  refine Finset.sum_congr rfl fun f _ => congrArg (· * _) ?_
  rw [gate_apply, hid_apply]

theorem col_lt (e : Fin 16) (f : Fin 4096) : e.val * 4096 + f.val < 65536 := by omega
theorem row_lt (d : Fin 16) (r : Fin 1024) : d.val * 1024 + r.val < 16384 := by omega

variable (X : FVec Ideal Cert.ReferenceIdeal.S16384x1024 .bf16) (W : FVec Ideal Cert.ReferenceIdeal.S1024x65536 .bf16)
  (V : FVec Ideal Cert.ReferenceIdeal.S65536x1024 .bf16)

/-- The devices hold the blocks of the whole arrays. -/
structure Blocks : Prop where
  x : ∀ (d : Fin 16) (r k : Fin 1024), J.x d (ix2 r k) = X (ix2 ⟨d.val * 1024 + r.val, row_lt d r⟩ k)
  w1 : ∀ (e : Fin 16) (k : Fin 1024) (f : Fin 4096), J.w1 e (ix2 k f) = W (ix2 k ⟨e.val * 4096 + f.val, col_lt e f⟩)
  w2 : ∀ (e : Fin 16) (f : Fin 4096) (c : Fin 1024), J.w2 e (ix2 f c) = V (ix2 ⟨e.val * 4096 + f.val, col_lt e f⟩ c)

variable {J X W V}

/-- A device's result is the reference's for its rows. -/
theorem out_eq_ref (B : Blocks J X W V) (d : Fin 16) (r c : Fin 1024) :
    outV J d (ix2 r c) = Ref.refOut X W V (ix2 ⟨d.val * 1024 + r.val, row_lt d r⟩ c) := by
  rw [refOut_apply, sum_runs 16 4096 65536 (by decide) _ col_lt]
  refine (out_apply J d r c).trans (Finset.sum_congr rfl fun e _ => Finset.sum_congr rfl fun f _ => ?_)
  unfold term
  refine congrArg₂ (fun h v : EReal => silu h * v) (Finset.sum_congr rfl fun k _ => ?_) (B.w2 e f c)
  exact congrArg₂ (fun a b : EReal => a * b) (B.x d r k) (B.w1 e k f)

/-- The same, as a block of the whole result. -/
theorem out_eq_block (B : Blocks J X W V) (d : Fin 16) :
    outV J d = Layout.block ⟨2, ![1024, 1024]⟩ ⟨2, ![16384, 1024]⟩ 0 16 d (Ref.refOut X W V) := by
  funext i
  obtain ⟨r, c, rfl⟩ : ∃ r c, i = ix2 r c := ⟨i 0, i 1, eq_ix2 i⟩
  rw [out_eq_ref B, Layout.block_apply]
  refine congrArg _ (funext fun a => Fin.ext ?_)
  match a with
  | ⟨0, _⟩ => rfl
  | ⟨1, _⟩ => rfl

/-- Blocks as the claims state them. -/
theorem blocks_of (hx : ∀ d : Fin 16, J.x d = Layout.block ⟨2, ![1024, 1024]⟩ ⟨2, ![16384, 1024]⟩ 0 16 d X)
    (h1 : ∀ d : Fin 16, J.w1 d = Layout.block ⟨2, ![1024, 4096]⟩ ⟨2, ![1024, 65536]⟩ 1 16 d W)
    (h2 : ∀ d : Fin 16, J.w2 d = Layout.block ⟨2, ![4096, 1024]⟩ ⟨2, ![65536, 1024]⟩ 0 16 d V) : Blocks J X W V where
  x d r k := by
    rw [hx, Layout.block_apply]
    refine congrArg X (funext fun a => Fin.ext ?_)
    match a with
    | ⟨0, _⟩ => rfl
    | ⟨1, _⟩ => rfl
  w1 e k f := by
    rw [h1, Layout.block_apply]
    refine congrArg W (funext fun a => Fin.ext ?_)
    match a with
    | ⟨0, _⟩ => rfl
    | ⟨1, _⟩ => rfl
  w2 e f c := by
    rw [h2, Layout.block_apply]
    refine congrArg V (funext fun a => Fin.ext ?_)
    match a with
    | ⟨0, _⟩ => rfl
    | ⟨1, _⟩ => rfl

end Cert.AgRs
end
-- ==== Proof.Ops.lean ====
/-
  What every device knows throughout, and the rules for the kernel's operations on its semaphores under the protocol of `Sched`.
-/
module

public import proofs.«01_k».proof.Proof.Sched

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

abbrev 𝒱₀ : Variants := Variants.none

/-- The body's program logic on device `p`. -/
abbrev WP (p : Dev nD) {α : Type} (e : PROG F α) (Q : α → sProp 𝕄) : sProp 𝕄 :=
  wp frame (wpE (defs₀ (F := F)) 𝒱₀ (p : Thread nD τ) none) Set.univ e Q

/-! ## Families of resources -/

theorem bs_ins {J : Type} [DecidableEq J] {a : J} {s : Finset J} (h : a ∉ s) (Φ : J → sProp 𝕄) :
    bigSep (insert a s) Φ = iprop(Φ a ∗ bigSep s Φ) := bigSep_insert h

theorem bs_mem {J : Type} [DecidableEq J] {a : J} {s : Finset J} (h : a ∈ s) (Φ : J → sProp 𝕄) :
    bigSep s Φ = iprop(Φ a ∗ bigSep (s.erase a) Φ) := by
  conv_lhs => rw [← Finset.insert_erase h]
  exact bs_ins (Finset.notMem_erase _ _) Φ

theorem bs_take {a n : ℕ} (h : a < n) (Φ : ℕ → sProp 𝕄) :
    bigSep (Finset.Ico a n) Φ = iprop(Φ a ∗ bigSep (Finset.Ico (a + 1) n) Φ) := by
  rw [show Finset.Ico a n = insert a (Finset.Ico (a + 1) n) from by ext x; simp; omega]
  exact bs_ins (by simp) Φ

theorem bs_push {a n : ℕ} (h : a ≤ n) (Φ : ℕ → sProp 𝕄) :
    bigSep (Finset.Ico a (n + 1)) Φ = iprop(Φ n ∗ bigSep (Finset.Ico a n) Φ) := by
  rw [show Finset.Ico a (n + 1) = insert n (Finset.Ico a n) from by ext x; simp; omega]
  exact bs_ins (by simp) Φ

theorem bs_none {a n : ℕ} (h : n ≤ a) (Φ : ℕ → sProp 𝕄) : bigSep (Finset.Ico a n) Φ = (iprop(emp) : sProp 𝕄) := by
  rw [Finset.Ico_eq_empty_of_le h]; exact bigSep_empty

theorem bs_two (Φ : ℕ → sProp 𝕄) : bigSep ({0, 1} : Finset ℕ) Φ = iprop(Φ 0 ∗ Φ 1) := by
  rw [bs_ins (by decide), bigSep_singleton]

/-! ## What every device knows -/

/-- The kernel's own semaphores and the entry handshake's, in the order of their numbers. -/
def kc (i : Fin 16) : SemLoc sig :=
  if h : i.val < 12 then .dma (⟨4 + i.val, by show _ < 16; omega⟩ : Fin 16) else .reg (⟨i.val - 12, by show _ < 4; omega⟩ : Fin 4)

theorem kc_of_code (sm : SemLoc sig) (h : 4 ≤ code sm) : ∃ i, kc i = sm := by
  cases sm with
  | reg s =>
    have hs : s.val < 4 := s.isLt
    refine ⟨⟨12 + s.val, by omega⟩, ?_⟩
    unfold kc; rw [dif_neg (by show ¬ 12 + s.val < 12; omega)]
    exact congrArg SemLoc.reg (Fin.ext (by show 12 + s.val - 12 = s.val; omega))
  | dma s =>
    have hs : s.val < 16 := s.isLt
    have h' : 4 ≤ s.val := h
    refine ⟨⟨s.val - 4, by omega⟩, ?_⟩
    unfold kc; rw [dif_pos (by show s.val - 4 < 12; omega)]
    exact congrArg SemLoc.dma (Fin.ext (by show 4 + (s.val - 4) = s.val; omega))

/-- The keys: hops 1 … 15 and partial sums 0 … 14 of every device. -/
def keys : Finset Key := Finset.univ ×ˢ Finset.Ico 1 31

/-- The levels of all indices. -/
def Lev : sProp 𝕄 := levAts (L 19) lv

instance Lev_persistent : BI.Persistent (Lev (F := F)) := by unfold Lev; infer_instance

/-- Every semaphore's invariant and that its round 0 is reached; every slot's invariant; the levels. -/
def Know : sProp 𝕄 :=
  iprop((bigSep Finset.univ fun x : Dev nD × Fin 16 => iprop((∃ n, cellInv ER (Rd I) n ((x.1 : Thread nD τ), kc x.2)) ∗ reached ER ((x.1 : Thread nD τ), kc x.2) 0))
    ∗ (bigSep keys fun k => iprop(∃ n, slotInv ES n k (keySlot k)))
    ∗ Lev)

instance Know_persistent : BI.Persistent (Know I) := by unfold Know; infer_instance

theorem know_cell (d : Dev nD) (sm : SemLoc sig) (h : 4 ≤ code sm) :
    Know I ⊢ iprop(∃ n, cellInv ER (Rd I) n ((d : Thread nD τ), sm)) := by
  obtain ⟨i, rfl⟩ := kc_of_code sm h
  unfold Know
  rw [bs_mem (Finset.mem_univ ((d, i) : Dev nD × Fin 16))]
  iintro ⟨⟨⟨H, -⟩, -⟩, -⟩
  iexact H

theorem know_zero (d : Dev nD) (sm : SemLoc sig) (h : 4 ≤ code sm) : Know I ⊢ reached ER ((d : Thread nD τ), sm) 0 := by
  obtain ⟨i, rfl⟩ := kc_of_code sm h
  unfold Know
  rw [bs_mem (Finset.mem_univ ((d, i) : Dev nD × Fin 16))]
  iintro ⟨⟨⟨-, H⟩, -⟩, -⟩
  iexact H

theorem know_slot (k : Key) (h : k ∈ keys) : Know I ⊢ iprop(∃ n, slotInv ES n k (keySlot k)) := by
  unfold Know
  rw [bs_mem h]
  iintro ⟨-, ⟨H, -⟩, -⟩
  iexact H

theorem knowLevels : Know I ⊢ Lev := by
  unfold Know
  iintro ⟨-, -, H⟩
  iexact H

theorem code_reg_le (i : Sem sig) : 4 ≤ code (.reg i) := by show 4 ≤ 16 + i.val; omega
theorem xs_le (t : ℕ) : 4 ≤ code (.dma (xSend t).sem) := by rw [code_xSend]; omega
theorem xr_le (t : ℕ) : 4 ≤ code (.dma (xRecv t).sem) := by rw [code_xRecv]; omega
theorem as_le (t : ℕ) : 4 ≤ code (.dma (aSend t).sem) := by rw [code_aSend]; omega
theorem ar_le (t : ℕ) : 4 ≤ code (.dma (aRecv t).sem) := by rw [code_aRecv]; omega

/-! ## Slots are exclusive, and taken and released -/

theorem set_nonempty {e : EltTy} (M : Memref sig .tc .vmem S1024x1024 e) : M.view.set.Nonempty :=
  ⟨_, Finset.mem_map_of_mem _ (Finset.mem_univ (fun a => match a with | ⟨0, _⟩ => (⟨0, by decide⟩ : Fin 1024) | ⟨1, _⟩ => (⟨0, by decide⟩ : Fin 1024)))⟩

theorem keySlot_excl (k : Key) : iprop(keySlot k ∗ keySlot k) ⊢ (False : sProp 𝕄) := by
  unfold keySlot
  split
  · exact slot_slot_false (set_nonempty _)
  · exact slot_slot_false (set_nonempty _)

theorem owns_fr (d : Dev nD) {sp : Space} {s : Shape} {e : EltTy} (M : Memref sig .tc sp s e) (X : s.Idx → Elt F e) :
    owns (d : Thread nD τ) M fullShare X ⊢ (fr d M : sProp 𝕄) := by
  unfold owns fr slot
  iintro ⟨%f, -, H⟩
  iexists f; iexact H

/-- The owner gives a slot up. -/
theorem release (k : Key) (h : k ∈ keys) :
    iprop(Know I ∗ readerAt ES k 0 ∗ keySlot k) ⊢ (|={Set.univ}=> released ES k 1 : sProp 𝕄) := by
  iintro ⟨#HK, Hr, Hs⟩
  ihave #HI := (know_slot I k h) $$ HK
  icases HI with ⟨%n, #HI⟩
  imod (slot_release ES (Set.mem_univ n) (keySlot_excl k) 0) $$ [Hr Hs] with ⟨-, H⟩
  · isplitr; · iexact HI
    isplitl [Hr] <;> iassumption
  imodintro; iexact H

/-- The writer takes it. -/
theorem take (k : Key) (h : k ∈ keys) :
    iprop(Know I ∗ released ES k 1 ∗ writeTok ES k 1) ⊢ (|={Set.univ}=> keySlot k : sProp 𝕄) := by
  iintro ⟨#HK, Hr, Hs⟩
  ihave #HI := (know_slot I k h) $$ HK
  icases HI with ⟨%n, #HI⟩
  iapply (slot_take ES (Set.mem_univ n) 1)
  isplitr; · iexact HI
  isplitl [Hr] <;> iassumption

/-! ## What is owed -/

/-- Device `p` owes exactly the payments of the list. -/
def ow (p : Dev nD) (D : List (Pay nD τ sig)) : sProp 𝕄 := iprop(∃ W, owes (p : Thread nD τ) (tallyL D) W)

/-- Every payment of the list has an index of at least `b`. -/
def Lo (b : ℕ) (D : List (Pay nD τ sig)) : Prop := ∀ x ∈ D, x.1.1.2 = .tc ∧ b ≤ x.2.1 ∧ x.2.1 < 19

theorem Lo.mono {b b' : ℕ} {D : List (Pay nD τ sig)} (h : Lo b' D) (hb : b ≤ b') : Lo b D :=
  fun x hx => ⟨(h x hx).1, hb.trans (h x hx).2.1, (h x hx).2.2⟩
theorem Lo.nil {b : ℕ} : Lo b [] := fun _ h => absurd h List.not_mem_nil
theorem Lo.cons {b : ℕ} {x : Pay nD τ sig} {D : List (Pay nD τ sig)} (hx : x.1.1.2 = .tc ∧ b ≤ x.2.1 ∧ x.2.1 < 19) (h : Lo b D) : Lo b (x :: D) :=
  fun y hy => (List.mem_cons.mp hy).elim (fun e => e ▸ hx) (h y)
theorem Lo.append {b : ℕ} {D D' : List (Pay nD τ sig)} (h : Lo b D) (h' : Lo b D') : Lo b (D ++ D') :=
  fun y hy => (List.mem_append.mp hy).elim (h y) (h' y)

theorem mayWait (p : Dev nD) (sm : SemLoc sig) {i : ℕ} (hi : i < 19) {D : List (Pay nD τ sig)} (hD : Lo (i + 1) D) :
    Know I ⊢ (MayWait (p : Thread nD τ) sm i (tallyL D) : sProp 𝕄) := by
  refine (knowLevels I).trans ?_
  unfold Lev
  refine Idealize.ShloMosaic.SiteBlocks.mayWait_of hi p sm (tallyL D) ?_
  intro g k h
  obtain ⟨x, hx, hg, hk⟩ := Idealize.ShloMosaic.TalkSites.tallyL_pos h
  obtain ⟨h1, h2, h3⟩ := hD x hx
  rw [← hg] at h1; rw [← hk] at h2 h3
  exact ⟨Idealize.ShloMosaic.SiteBlocks.mem_L' h1 h3, h2⟩

/-- A list's payments are its first and the rest. -/
theorem tallyL_cons (x : Pay nD τ sig) (D : List (Pay nD τ sig)) : tallyL (x :: D) = tallyL D + tallyAt x.1 x.2.1 x.2.2 := by
  have := Idealize.ShloMosaic.TalkSites.tallyL_append [x] D
  rw [List.singleton_append] at this
  rw [this, add_comm]
  exact congrArg _ (add_zero _)

/-! ## Waiting and signalling -/

/-- A wait for a copy: the round's payload. -/
theorem wp_arrive (p : Dev nD) (i : DmaSem sig) (hc : 4 ≤ i.val) (r ι : ℕ) (hι : ι < 19) (D : List (Pay nD τ sig)) (hD : Lo (ι + 1) D)
    (hd : (Rd I).duties ((p : Thread nD τ), .dma i) r = {0})
    {sp sp' : Space} {s s' : Shape} {e e' : EltTy} (src : Memref sig .tc sp' s' e') (dst : Memref sig .tc sp s e)
    (hsrc : src.view.WordExact) (hdst : dst.view.WordExact) (hN : dst.view.dmaCredit = NB) (Q : PUnit → sProp 𝕄) :
    iprop(Know I ∗ cred (tallyAt ((p : Thread nD τ), .dma i) ι NB) ∗ ow p D ∗ atPos ER ((p : Thread nD τ), .dma i) r ∅ 0)
      ⊢ iprop(((ow p D ∗ atPos ER ((p : Thread nD τ), .dma i) (r + 1) ∅ 0 ∗ reached ER ((p : Thread nD τ), .dma i) (r + 1)
            ∗ (Rd I).payload ((p : Thread nD τ), .dma i) r 0) -∗ Q ⟨⟩)
          -∗ WP p (Prog.lift (.waitDma2 i src dst hsrc hdst)) Q) := by
  unfold ow WP
  simp only [Prog.lift]
  iintro ⟨#HK, Hc, ⟨%W, HO⟩, Hat⟩ Hk
  ihave #HI := (know_cell I p (.dma i) hc) $$ HK
  icases HI with ⟨%n, #HI⟩
  iapply (Rounds.wp_wait_rest_token 𝒱₀ ER (Rd I) (p : Thread nD τ) none (κ := n)
      (wpE_waitDma2_eq 𝒱₀ (p : Thread nD τ) none Set.univ) (Set.mem_univ _) ι (O := tallyL D) (W := W) (R := r) (m := 0) (T := ∅)
      (by rw [Nat.zero_add, expect_one I p hd, hN])) $$ [Hc HO Hat]
  · isplitr; · iexact HI
    isplitl [Hc]; · rw [hN]; iexact Hc
    isplitl [HO]; · iexact HO
    isplitr; · iapply (mayWait I p (.dma i) hι hD); iexact HK
    iexact Hat
  iintro ⟨HO, Hat, Hr, Hpay⟩
  ihave Hpay := (Entails.of_eq (show (bigSep ((Rd I).duties ((p : Thread nD τ), .dma i) r \ ∅) fun j => (Rd I).payload ((p : Thread nD τ), .dma i) r j) = (Rd I).payload ((p : Thread nD τ), .dma i) r 0 from by
    rw [Finset.sdiff_empty, hd, bigSep_singleton])) $$ Hpay
  rw [wp_ret]
  imodintro
  iapply Hk
  isplitl [HO]; · iexists _; iexact HO
  isplitl [Hat]; · iexact Hat
  isplitl [Hr]; · iexact Hr
  iexact Hpay

/-- A signal pays its duty. -/
theorem wp_tell (p q : Dev nD) (i : Sem sig) (r j ι : ℕ) (D : List (Pay nD τ sig)) (hj : j ∈ (Rd I).duties ((q : Thread nD τ), .reg i) r) (Q : PUnit → sProp 𝕄) :
    iprop(Know I ∗ ow p ((((q : Thread nD τ), .reg i), ι, 1) :: D) ∗ dutyTok ER ((q : Thread nD τ), .reg i) r j
        ∗ (Rd I).payload ((q : Thread nD τ), .reg i) r j ∗ reached ER ((q : Thread nD τ), .reg i) r)
      ⊢ iprop((ow p D -∗ Q ⟨⟩) -∗ WP p (semSignalWord q i 1#32) Q) := by
  unfold ow WP
  simp only [semSignalWord]
  iintro ⟨#HK, ⟨%W, HO⟩, Ht, Hp, Hr⟩ Hk
  ihave #HI := (know_cell I q (.reg i) (code_reg_le i)) $$ HK
  icases HI with ⟨%n, #HI⟩
  iapply (Rounds.wp_signal 𝒱₀ ER (Rd I) (p : Thread nD τ) none (dst := (q : Thread nD τ)) (κ := n) (r := r)
      (d := j) hj ((amount_reg I q i r j).trans (show 1 = (1#32 : BitVec 32).toNat by decide)) ι (tallyL D) (tallyL_cons (((q : Thread nD τ), .reg i), ι, 1) D))
    $$ [HO Ht Hp Hr]
  · isplitr; · iexact HI
    isplitl [HO]; · iexact HO
    isplitl [Ht]; · iexact Ht
    isplitl [Hp] <;> iassumption
  iintro HO
  rw [wp_ret]; imodintro
  iapply Hk; iexists W; iexact HO

/-- A wait for both neighbours' signals. -/
theorem wp_both (p : Dev nD) (i : Sem sig) (ι : ℕ) (hι : ι < 19) (D : List (Pay nD τ sig)) (hD : Lo (ι + 1) D)
    (hd : (Rd I).duties ((p : Thread nD τ), .reg i) 0 = {0, 1}) (Q : PUnit → sProp 𝕄) :
    iprop(Know I ∗ cred (tallyAt ((p : Thread nD τ), .reg i) ι 2) ∗ ow p D ∗ atPos ER ((p : Thread nD τ), .reg i) 0 ∅ 0)
      ⊢ iprop(((ow p D ∗ atPos ER ((p : Thread nD τ), .reg i) 1 ∅ 0
            ∗ (Rd I).payload ((p : Thread nD τ), .reg i) 0 0 ∗ (Rd I).payload ((p : Thread nD τ), .reg i) 0 1) -∗ Q ⟨⟩)
          -∗ WP p (semWaitWord i 2#32) Q) := by
  unfold ow WP
  simp only [semWaitWord]
  iintro ⟨#HK, Hc, ⟨%W, HO⟩, Hat⟩ Hk
  ihave #HI := (know_cell I p (.reg i) (code_reg_le i)) $$ HK
  icases HI with ⟨%n, #HI⟩
  iapply (Rounds.wp_wait_rest_token 𝒱₀ ER (Rd I) (p : Thread nD τ) none (κ := n)
      (wpE_semWait_eq 𝒱₀ (p : Thread nD τ) none Set.univ) (Set.mem_univ _) ι (O := tallyL D) (W := W) (R := 0) (m := 0) (T := ∅)
      (by rw [expect_reg, hd]; decide)) $$ [Hc HO Hat]
  · isplitr; · iexact HI
    isplitl [Hc]; · iexact Hc
    isplitl [HO]; · iexact HO
    isplitr; · iapply (mayWait I p (.reg i) hι hD); iexact HK
    iexact Hat
  iintro ⟨HO, Hat, -, Hpay⟩
  ihave Hpay := (Entails.of_eq (show (bigSep ((Rd I).duties ((p : Thread nD τ), .reg i) 0 \ ∅) fun j => (Rd I).payload ((p : Thread nD τ), .reg i) 0 j) = iprop((Rd I).payload ((p : Thread nD τ), .reg i) 0 0 ∗ (Rd I).payload ((p : Thread nD τ), .reg i) 0 1) from by
    rw [Finset.sdiff_empty, hd, bs_two])) $$ Hpay
  rw [wp_ret]
  imodintro
  iapply Hk
  isplitl [HO]; · iexists _; iexact HO
  isplitl [Hat]; · iexact Hat
  iexact Hpay

/-! ## Credits -/

/-- A credit semaphore after `k` waits: some of its duties' payloads have been taken. -/
def crSt (g : GSem nD τ sig) (k : ℕ) : sProp 𝕄 :=
  iprop(∃ T : Finset ℕ, ⌜T ⊆ (Rd I).duties g 0 ∧ k ≤ T.card⌝ ∗ atPos ER g 0 T k ∗ bigSep T (fun j => (Rd I).payload g 0 j))

/-- The `k`-th wait for a credit: a signal numbered `k` or later has been delivered. -/
theorem wp_credit (p : Dev nD) (i : Sem sig) (n k ι : ℕ) (hk : k < n) (hι : ι < 19) (D : List (Pay nD τ sig)) (hD : Lo (ι + 1) D)
    (hd : (Rd I).duties ((p : Thread nD τ), .reg i) 0 = Finset.range n) (Φ : ℕ → sProp 𝕄) (hΦ : ∀ j, BI.Persistent (Φ j))
    (hp : ∀ j, (Rd I).payload ((p : Thread nD τ), .reg i) 0 j = bigSep (Finset.range (j + 1)) Φ) (Q : PUnit → sProp 𝕄) :
    iprop(Know I ∗ cred (tallyAt ((p : Thread nD τ), .reg i) ι 1) ∗ ow p D ∗ crSt I ((p : Thread nD τ), .reg i) k)
      ⊢ iprop(((ow p D ∗ crSt I ((p : Thread nD τ), .reg i) (k + 1) ∗ Φ k) -∗ Q ⟨⟩)
          -∗ WP p (semWaitWord i 1#32) Q) := by
  unfold ow WP crSt
  simp only [semWaitWord]
  iintro ⟨#HK, Hc, ⟨%W, HO⟩, ⟨%T, %hT', Hat, HT⟩⟩ Hk
  obtain ⟨hT, -⟩ := hT'
  ihave #HI := (know_cell I p (.reg i) (code_reg_le i)) $$ HK
  icases HI with ⟨%κ, #HI⟩
  iapply (Rounds.wp_wait 𝒱₀ ER (Rd I) (p : Thread nD τ) none (κ := κ)
      (wpE_semWait_eq 𝒱₀ (p : Thread nD τ) none Set.univ) (Set.mem_univ _) (cr := Finsupp.single ι 1) (O := tallyL D) (W := W)
      {(.reg i, ι)} (R := 0) (m := k) (T := T) (by rw [Util.total_single]; decide) (image_single_subset (.reg i) ι 1)) $$ [Hc HO Hat]
  · isplitr; · iexact HI
    isplitl [Hc]; · iexact Hc
    isplitl [HO]; · iexact HO
    isplitr; · iapply (mayWait I p (.reg i) hι hD); iexact HK
    iexact Hat
  iintro %S ⟨%hS, HO, Hat, Hpay⟩
  obtain ⟨hTS, hSd, hle⟩ := hS
  have e1 : (Int.toNat (1#32 : BitVec 32).toInt) = 1 := by decide
  have hle' : k + 1 + ((Rd I).duties ((p : Thread nD τ), .reg i) 0 \ S).card ≤ n := by
    rw [expect_reg, hd, Finset.card_range] at hle
    rw [hd]; exact hle
  have hcard : k + 1 ≤ S.card := by
    have := Finset.card_sdiff_add_card_eq_card hSd
    rw [hd] at this hle'
    rw [Finset.card_range] at this
    omega
  obtain ⟨j, hj, hkj⟩ : ∃ j ∈ S, k ≤ j := by
    by_contra hn
    have hsub : S ⊆ Finset.range k := fun x hx => Finset.mem_range.mpr (by
      by_contra h; exact hn ⟨x, hx, by omega⟩)
    have := Finset.card_le_card hsub
    rw [Finset.card_range] at this; omega
  have hmem : k ∈ Finset.range (j + 1) := Finset.mem_range.mpr (by omega)
  have hex : bigSep S (fun j => (Rd I).payload ((p : Thread nD τ), .reg i) 0 j) ⊢ Φ k := by
    rw [bs_mem hj, hp j, bs_mem hmem]
    iintro ⟨⟨H, -⟩, -⟩; iexact H
  have hpers : BI.Persistent (bigSep S (fun j => (Rd I).payload ((p : Thread nD τ), .reg i) 0 j)) := by
    simp only [hp]; infer_instance
  have hjoin : iprop(bigSep T (fun j => (Rd I).payload ((p : Thread nD τ), .reg i) 0 j) ∗ bigSep (S \ T) (fun j => (Rd I).payload ((p : Thread nD τ), .reg i) 0 j))
      ⊢ bigSep S (fun j => (Rd I).payload ((p : Thread nD τ), .reg i) 0 j) := by
    conv_rhs => rw [← Finset.union_sdiff_of_subset hTS, bigSep_union (Finset.disjoint_sdiff)]
    exact .rfl
  ihave #HS := hjoin $$ [HT Hpay]
  · isplitl [HT] <;> iassumption
  rw [wp_ret]; imodintro
  iapply Hk
  isplitl [HO]; · iexists _; iexact HO
  isplitl [Hat]
  · iexists S
    isplitr; · ipureintro; exact ⟨hSd, hcard⟩
    isplitl [Hat]; · iexact Hat
    iexact HS
  iapply hex; iexact HS

/-- After all its waits a credit semaphore is at zero. -/
theorem credit_close (p : Dev nD) (i : Sem sig) (n : ℕ) (hl : ∀ r, 0 < r → (Rd I).duties ((p : Thread nD τ), .reg i) r = ∅)
    (hd : (Rd I).duties ((p : Thread nD τ), .reg i) 0 = Finset.range n) :
    iprop(Know I ∗ crSt I ((p : Thread nD τ), .reg i) n) ⊢ (|={Set.univ}=> semVal ((p : Thread nD τ), .reg i) 0 : sProp 𝕄) := by
  unfold crSt
  iintro ⟨#HK, %T, %hT, Hat, -⟩
  ihave #HI := (know_cell I p (.reg i) (code_reg_le i)) $$ HK
  icases HI with ⟨%κ, #HI⟩
  have hn : (Rd I).duties ((p : Thread nD τ), .reg i) 0 ⊆ T := by
    rw [Finset.eq_of_subset_of_card_le hT.1 (by rw [hd, Finset.card_range]; exact hT.2)]
  imod (Rounds.fupd_skip ER (Rd I) (κ := κ) hn (show n = _ by rw [expect_reg, hd, Finset.card_range]) (Set.mem_univ κ)) $$ [Hat] with ⟨Hat, -⟩
  · isplitr; · iexact HI
    iexact Hat
  iapply (Rounds.cell_close ER (Rd I) (Set.mem_univ κ) (fun h => h) (R := 0 + 1) (fun r hr => hl r (by omega)))
  isplitr; · iexact HI
  iexact Hat

/-- A copy semaphore none of whose later rounds has a duty is at zero. -/
theorem copy_close (p : Dev nD) (i : DmaSem sig) (hc : 4 ≤ i.val) (R : ℕ) (hl : ∀ r, R ≤ r → (Rd I).duties ((p : Thread nD τ), .dma i) r = ∅) :
    iprop(Know I ∗ atPos ER ((p : Thread nD τ), .dma i) R ∅ 0) ⊢ (|={Set.univ}=> semVal ((p : Thread nD τ), .dma i) 0 : sProp 𝕄) := by
  iintro ⟨#HK, Hat⟩
  ihave #HI := (know_cell I p (.dma i) hc) $$ HK
  icases HI with ⟨%κ, #HI⟩
  iapply (Rounds.cell_close ER (Rd I) (Set.mem_univ κ) (fun h => h) (R := R) hl)
  isplitr; · iexact HI
  iexact Hat

/-- A handshake semaphore after its one round is at zero. -/
theorem shake_close (p : Dev nD) (i : Sem sig) (hl : ∀ r, 0 < r → (Rd I).duties ((p : Thread nD τ), .reg i) r = ∅) :
    iprop(Know I ∗ atPos ER ((p : Thread nD τ), .reg i) 1 ∅ 0) ⊢ (|={Set.univ}=> semVal ((p : Thread nD τ), .reg i) 0 : sProp 𝕄) := by
  iintro ⟨#HK, Hat⟩
  ihave #HI := (know_cell I p (.reg i) (code_reg_le i)) $$ HK
  icases HI with ⟨%κ, #HI⟩
  iapply (Rounds.cell_close ER (Rd I) (Set.mem_univ κ) (fun h => h) (R := 1) (fun r hr => hl r (by omega)))
  isplitr; · iexact HI
  iexact Hat

/-! ## Sending -/

theorem owns_at (d : Dev nD) {sp : Space} {s : Shape} {e : EltTy} (M : Memref sig .tc sp s e) (q : PosShare TreeShare)
    (f : Buf (Elt F) (M.view.loc (d : Thread nD τ))) (X : s.Idx → Elt F e) (h : M.view.read (Elt F) f = X) :
    (M.view.loc (d : Thread nD τ) ↦[M.view.set]{q} f : sProp 𝕄) ⊢ owns (d : Thread nD τ) M q X := by
  unfold owns
  iintro H
  iexists f
  isplitr
  · ipureintro; exact h
  iexact H

/-- A copy of slot `src` to slot `dst` of device `q`: it reads a share of the source and takes the destination; both come back with the
    counts it pays. -/

theorem wp_copy (p q : Dev nD) (src dst : Memref sig .tc .vmem S1024x1024 .bf16) (hsc : dst.view.ref.isScScratch = false)
    (hs : src.view.WordExact) (ht : dst.view.WordExact) (sS sD : DmaSem sig)
    (hsem : DmaTarget.Typed .vmem (.dma sD : SemLoc sig) (.remote (q : Thread nD τ) dst (.dma sS) hsc))
    (hcS : 4 ≤ sS.val) (hcD : 4 ≤ sD.val) (rS rD ι ι' : ℕ) (D : List (Pay nD τ sig))
    (hdS : (Rd I).duties ((p : Thread nD τ), .dma sS) rS = {0}) (hdD : (Rd I).duties ((q : Thread nD τ), .dma sD) rD = {0})
    (hN : dst.view.amount (.dma sD : SemLoc sig) = NB) (f : PosShare TreeShare) (X : Vec F S1024x1024 .bf16)
    (hpS : owns (p : Thread nD τ) src f X ⊢ (Rd I).payload ((p : Thread nD τ), .dma sS) rS 0)
    (hpD : owns (q : Thread nD τ) dst fullShare X ⊢ (Rd I).payload ((q : Thread nD τ), .dma sD) rD 0)
    (Q : PUnit → sProp 𝕄) :
    iprop(Know I ∗ owns (p : Thread nD τ) src f X ∗ fr q dst ∗ ow p ((((q : Thread nD τ), .dma sD), ι, NB) :: D)
        ∗ dutyTok ER ((p : Thread nD τ), .dma sS) rS 0 ∗ reached ER ((p : Thread nD τ), .dma sS) rS
        ∗ dutyTok ER ((q : Thread nD τ), .dma sD) rD 0 ∗ reached ER ((q : Thread nD τ), .dma sD) rD)
      ⊢ iprop(((cred (tallyAt ((p : Thread nD τ), .dma sS) ι' NB) ∗ ow p D) -∗ Q ⟨⟩)
          -∗ WP p (Prog.lift (.enqueueDma src (.remote (q : Thread nD τ) dst (.dma sS) hsc) (.dma sD) hs ht hsem)) Q) := by
  unfold ow WP
  simp only [Prog.lift]
  iintro ⟨#HK, Hs, Hd, ⟨%W, HO⟩, HtS, HrS, HtD, HrD⟩ Hk
  ihave #HIS := (know_cell I p (.dma sS) hcS) $$ HK
  icases HIS with ⟨%κ₁, #HIS⟩
  ihave #HID := (know_cell I q (.dma sD) hcD) $$ HK
  icases HID with ⟨%κ₂, #HID⟩
  unfold fr slot
  icases Hd with ⟨%fd, Hd⟩
  ihave Hs := (Entails.of_eq (show owns (p : Thread nD τ) src f X = iprop(∃ g, ⌜src.view.read (Elt F) g = X⌝ ∗ (src.view.loc (p : Thread nD τ) ↦[src.view.set]{f} g)) from rfl)) $$ Hs
  icases Hs with ⟨%fs, %hfs, Hs⟩
  have hp1 : (src.view.loc (p : Thread nD τ) ↦[src.view.set]{f} fs) ⊢ (Rd I).payload ((p : Thread nD τ), .dma sS) rS 0 := (owns_at p src f fs X hfs).trans hpS
  have hp2 : (dst.view.loc (q : Thread nD τ) ↦[dst.view.set]{fullShare} (dst.view.write (Elt F) fd (src.view.read (Elt F) fs) Finset.univ)) ⊢ (Rd I).payload ((q : Thread nD τ), .dma sD) rD 0 :=
    (owns_at q dst fullShare _ X ((View.read_write_univ _ _).trans hfs)).trans hpD
  have hd1 : 0 ∈ (Rd I).duties ((p : Thread nD τ), .dma sS) rS := by rw [hdS]; exact Finset.mem_singleton_self 0
  have hd2 : 0 ∈ (Rd I).duties ((q : Thread nD τ), .dma sD) rD := by rw [hdD]; exact Finset.mem_singleton_self 0
  have hr : τ.routes (p : Thread nD τ) (q : Thread nD τ) = true := by routes
  have e := Rounds.wp_send_pointsTo (defs := defs₀ (F := F)) (Γ := .empty) 𝒱₀ ER (Rd I) (p : Thread nD τ) none (c' := (q : Thread nD τ)) (src := src) (dst := dst) (hsc := hsc) (sS := .dma sS) (sem := .dma sD)
      (hsrc := hs) (hdst := ht) (hsem := hsem) (k := Prog.ret) (Q := Q) (κ₁ := κ₁) (κ₂ := κ₂) (r₁ := rS) (r₂ := rD) (d₁ := 0) (d₂ := 0) (q := f)
      (fs := fs) (fd := fd) hd1 hd2 ι ι' NB hN
      (amount_dma I p sS (dma_lt sS) rS 0) (amount_dma I q sD (dma_lt sD) rD 0) (tallyL D)
      (tallyL_cons (((q : Thread nD τ), .dma sD), ι, NB) D) (W := W) hp1 hp2 (Es := Set.univ) hr
  iapply e $$ [Hs Hd HO HtS HrS HtD HrD]
  · isplitr; · iexact HIS
    isplitr; · iexact HID
    isplitl [Hs]; · iexact Hs
    isplitl [Hd]; · iexact Hd
    isplitl [HO]; · iexact HO
    isplitl [HtS]; · iexact HtS
    isplitl [HrS]; · iexact HrS
    isplitl [HtD] <;> iassumption
  iintro ⟨Hc, HO⟩
  rw [wp_ret]; imodintro
  iapply Hk
  isplitl [Hc]; · iexact Hc
  iexists W; iexact HO

end Cert.AgRs

end
-- ==== Proof.Loads.lean ====
/-
  The rules for the kernel's loads and stores, the loop over the column blocks, and the rows of the slots from hop to hop.
-/
module

public import proofs.«01_k».proof.Proof.Ops

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

/-! ## Slots -/

/-- Read a slot. -/
theorem wp_look (p : Dev nD) {s : Shape} {e : EltTy} (m : Memref sig .tc .vmem s e) (r : Rect s) (hr : ∀ a, r.stride a = 1) (hl : m.view.LoadsAt r.toLoadRect)
    (q : PosShare TreeShare) (X : r.shape.Idx → Elt F e) (Q : (r.shape.Idx → Elt F e) → sProp 𝕄) :
    owns (p : Thread nD τ) (m.slice r hr) q X
      ⊢ iprop((owns (p : Thread nD τ) (m.slice r hr) q X -∗ Q X) -∗ WP p (Prog.lift (.load m r.toLoadRect hl)) Q) := by
  unfold WP owns
  simp only [Prog.lift]
  iintro ⟨%f, %hf, H⟩ Hk
  have e := wp_load_rect (defs := defs₀ (F := F)) (Γ := .empty) 𝒱₀ (p : Thread nD τ) none Set.univ (m := m) (r := r) (hl := hl) (k := Prog.ret) (Q := Q)
    (S := (m.slice r hr).view.set) (q := q) (f := f) (Finset.Subset.refl _)
  iapply e $$ H
  iintro H
  rw [wp_ret]; imodintro
  rw [show (m.access r).read (Elt F) f = X from hf]
  iapply Hk
  iexists f
  isplitr; · ipureintro; exact hf
  iexact H

/-- Read a slot of unknown contents. -/
theorem wp_peek (p : Dev nD) {s : Shape} {e : EltTy} (m : Memref sig .tc .vmem s e) (r : Rect s) (hr : ∀ a, r.stride a = 1) (hl : m.view.LoadsAt r.toLoadRect)
    (Q : (r.shape.Idx → Elt F e) → sProp 𝕄) :
    fr p (m.slice r hr)
      ⊢ iprop((∀ X, fr p (m.slice r hr) -∗ Q X) -∗ WP p (Prog.lift (.load m r.toLoadRect hl)) Q) := by
  iintro H Hk
  have e1 : fr p (m.slice r hr) ⊢ iprop(∃ X, owns (p : Thread nD τ) (m.slice r hr) fullShare X : sProp 𝕄) := by
    unfold fr slot
    iintro ⟨%f, H⟩
    iexists _
    iapply (owns_at p (m.slice r hr) fullShare f _ rfl)
    iexact H
  ihave H := e1 $$ H
  icases H with ⟨%X, H⟩
  iapply (wp_look p m r hr hl fullShare X Q) $$ H
  iintro H
  iapply Hk
  iapply (owns_fr p (m.slice r hr) X)
  iexact H

/-- Write a slot. -/
theorem wp_put (p : Dev nD) {s : Shape} {e : EltTy} (m : Memref sig .tc .vmem s e) (r : Rect s) (hr : ∀ a, r.stride a = 1) (w : r.shape.Idx → Elt F e)
    (hx : (m.access r).Stores Finset.univ) (hm : (Finset.univ : Finset r.shape.Idx) = Finset.univ ∨ ∀ a, r.stride a = 1) (Q : PUnit → sProp 𝕄) :
    fr p (m.slice r hr)
      ⊢ iprop((owns (p : Thread nD τ) (m.slice r hr) fullShare w -∗ Q ⟨⟩) -∗ WP p (Prog.lift (.store m r w Finset.univ hx hm)) Q) := by
  unfold WP fr slot
  simp only [Prog.lift]
  iintro ⟨%f, H⟩ Hk
  have e := wp_store (defs := defs₀ (F := F)) (Γ := .empty) 𝒱₀ (p : Thread nD τ) none Set.univ (m := m) (r := r) (w := w) (Mk := Finset.univ) (hx := hx) (hm := hm) (k := Prog.ret) (Q := Q)
    (S := (m.slice r hr).view.set) (f := f) (by rw [View.setOn_univ])
  iapply e $$ H
  iintro H
  rw [wp_ret]; imodintro
  iapply Hk
  iapply (owns_at p (m.slice r hr) fullShare _ w (View.read_write_univ _ _))
  iexact H

/-! ## The loop -/

/-- The two staged parts of the weights. -/
def wts (p : Dev nD) : sProp 𝕄 :=
  iprop((w1M.view.loc (p : Thread nD τ) ↦{fullShare} I.w1 p) ∗ (w2M.view.loc (p : Thread nD τ) ↦{fullShare} I.w2 p))

theorem wp_trip (p : Dev nD) (xb : Vec F S1024x1024 .bf16) (k : Fin k0_t1_loop.trips) (acc : FVec F S1024x1024 .f32) (Q : FVec F S1024x1024 .f32 → sProp 𝕄) :
    wts I p ⊢ iprop((wts I p -∗ Q (tripV I p xb k acc)) -∗ WP p (trip xb k acc) Q) := by
  unfold WP wts trip
  simp only [Prog.lift, bind, Prog.bind]
  iintro ⟨H1, H2⟩ Hk
  have e1 := fun (K : _ → PROG F (FVec F S1024x1024 .f32)) => wp_load (defs := defs₀ (F := F)) (Γ := .empty) 𝒱₀ (p : Thread nD τ) none Set.univ (m := w1M)
    (r := (Rect.unit (s := S1024x4096) (k0_off1 k) S1024x1024.size (k0_off1_inb k)).toLoadRect) (hl := View.loadsAt_vmem h_S1024x1024) (k := K) (Q := Q)
    (S := Finset.univ) (q := fullShare) (f := I.w1 p) (Finset.subset_univ _)
  have e2 := fun (K : _ → PROG F (FVec F S1024x1024 .f32)) => wp_load (defs := defs₀ (F := F)) (Γ := .empty) 𝒱₀ (p : Thread nD τ) none Set.univ (m := w2M)
    (r := (Rect.unit (s := S4096x1024) (k0_off2 k) S1024x1024.size (k0_off2_inb k)).toLoadRect) (hl := View.loadsAt_vmem h_S1024x1024) (k := K) (Q := Q)
    (S := Finset.univ) (q := fullShare) (f := I.w2 p) (Finset.subset_univ _)
  iapply (e1 _) $$ H1
  iintro H1
  iapply (e2 _) $$ H2
  iintro H2
  rw [show (pure : FVec F S1024x1024 .f32 → PROG F _) = Prog.ret from rfl, wp_ret]
  imodintro
  show Entails' _ (Q (tripV I p xb k acc))
  iapply Hk
  isplitl [H1] <;> iassumption

theorem wp_contrib (p : Dev nD) (xb : Vec F S1024x1024 .bf16) (Q : FVec F S1024x1024 .f32 → sProp 𝕄) :
    wts I p ⊢ iprop((wts I p -∗ Q (contribV I p xb)) -∗ WP p (contrib xb) Q) := by
  iintro H Hk
  unfold WP contrib
  have e := Scf.wp_for frame (wpE (defs₀ (F := F)) 𝒱₀ (p : Thread nD τ) none) Set.univ _ _ _ k0_t1_ok (k0_pay2 (F := F)) (trip xb)
    (fun k acc => iprop(⌜acc = tripsV I p xb k⌝ ∗ wts I p)) (fun k acc => by
      iintro ⟨%h, H⟩
      iapply (wp_trip I p xb k acc) $$ H
      iintro H
      isplitr
      · ipureintro
        rw [h]
        show _ = if h : k.val < k0_t1_loop.trips then tripV I p xb ⟨k.val, h⟩ (tripsV I p xb k.val) else tripsV I p xb k.val
        rw [dif_pos k.isLt]
      iexact H) (Q := Q)
  iapply e
  isplitl [H]
  · isplitr
    · ipureintro; rfl
    iexact H
  iintro %acc ⟨%h, H⟩
  rw [show acc = contribV I p xb from h]
  iapply Hk
  iexact H

/-! ## Periods -/

theorem xs_next (t : ℕ) : xs (t + 4) = xs t := by
  have key : ∀ b b' : ℕ, b = b' → ∀ hb hb', xcM.slice (Rect.unit (s := S4096x1024) ![1024 * b, 0] S1024x1024.size hb) (fun _ => rfl)
      = xcM.slice (Rect.unit (s := S4096x1024) ![1024 * b', 0] S1024x1024.size hb') (fun _ => rfl) := by
    rintro b _ rfl hb hb'; rfl
  exact key _ _ (Nat.add_mod_right t 4) _ _
theorem ar_next (t : ℕ) : ar (t + 2) = ar t := by
  have key : ∀ b b' : ℕ, b = b' → ∀ hb hb', arM.slice (Rect.unit (s := S2048x1024) ![1024 * b, 0] S1024x1024.size hb) (fun _ => rfl)
      = arM.slice (Rect.unit (s := S2048x1024) ![1024 * b', 0] S1024x1024.size hb') (fun _ => rfl) := by
    rintro b _ rfl hb hb'; rfl
  exact key _ _ (Nat.add_mod_right t 2) _ _
theorem ao_next (t : ℕ) : ao (t + 2) = ao t := by
  have key : ∀ b b' : ℕ, b = b' → ∀ hb hb', asM.slice (Rect.unit (s := S2048x1024) ![1024 * b, 0] S1024x1024.size hb) (fun _ => rfl)
      = asM.slice (Rect.unit (s := S2048x1024) ![1024 * b', 0] S1024x1024.size hb') (fun _ => rfl) := by
    rintro b _ rfl hb hb'; rfl
  exact key _ _ (Nat.add_mod_right t 2) _ _

theorem code_inj_dma {i j : DmaSem sig} (h : code (.dma i) = code (.dma j)) : i = j := Fin.ext h
theorem cXS_next (d : Dev nD) (t : ℕ) : cXS d (t + 4) = cXS d t := by
  unfold cXS; rw [code_inj_dma (i := (xSend (t + 4)).sem) (j := (xSend t).sem) (by rw [code_xSend, code_xSend]; omega)]
theorem cXR_next (d : Dev nD) (t : ℕ) : cXR d (t + 4) = cXR d t := by
  unfold cXR; rw [code_inj_dma (i := (xRecv (t + 4)).sem) (j := (xRecv t).sem) (by rw [code_xRecv, code_xRecv]; omega)]
theorem cAS_next (d : Dev nD) (t : ℕ) : cAS d (t + 2) = cAS d t := by
  unfold cAS; rw [code_inj_dma (i := (aSend (t + 2)).sem) (j := (aSend t).sem) (by rw [code_aSend, code_aSend]; omega)]
theorem cAR_next (d : Dev nD) (t : ℕ) : cAR d (t + 2) = cAR d t := by
  unfold cAR; rw [code_inj_dma (i := (aRecv (t + 2)).sem) (j := (aRecv t).sem) (by rw [code_aRecv, code_aRecv]; omega)]

theorem credit_xs (t : ℕ) : (xs t).view.dmaCredit = NB := rfl
theorem credit_ar (t : ℕ) : (ar t).view.dmaCredit = NB := rfl
theorem credit_ao (t : ℕ) : (ao t).view.dmaCredit = NB := rfl

end Cert.AgRs

end
-- ==== Proof.Steps.lean ====
/-
  The state of a device before hop `t`, and each operation of a hop as a step from the state at `t` to the state at `t + 1`.

  A family over `Finset.Ico t n` holds what the hops still to come will use up; taking its first member gives the family of the next hop.
-/
module

public import proofs.«01_k».proof.Proof.Loads

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

variable (p : Dev nD)

/-! ## The payments a hop makes, in order -/

/-- Passing the block on; -/
def dx (t : ℕ) : List (Pay nD τ sig) := if t ≤ 14 then [(cXR (nxt p) (t + 1), t + 2, NB)] else []
/-- giving its slot back; -/
def dg (t : ℕ) : List (Pay nD τ sig) := if t ≤ 11 then [(cXC (prv p), t + 2, 1)] else []
/-- giving the partial sum's slot back; -/
def dga (t : ℕ) : List (Pay nD τ sig) := if 2 ≤ t ∧ t ≤ 14 then [(cAC (prv p), t + 2, 1)] else []
/-- sending the next partial sum. -/
def da (t : ℕ) : List (Pay nD τ sig) := if 1 ≤ t ∧ t ≤ 15 then [(cAR (nxt p) (t - 1), t + 2, NB)] else []

theorem lo_dx (t : ℕ) (h : t ≤ 15) : Lo (t + 2) (dx p t) := by
  unfold dx; split
  · exact Lo.cons ⟨rfl, le_refl _, by show t + 2 < 19; omega⟩ Lo.nil
  · exact Lo.nil
theorem lo_dg (t : ℕ) (h : t ≤ 15) : Lo (t + 2) (dg p t) := by
  unfold dg; split
  · exact Lo.cons ⟨rfl, le_refl _, by show t + 2 < 19; omega⟩ Lo.nil
  · exact Lo.nil
theorem lo_dga (t : ℕ) (h : t ≤ 15) : Lo (t + 2) (dga p t) := by
  unfold dga; split
  · exact Lo.cons ⟨rfl, le_refl _, by show t + 2 < 19; omega⟩ Lo.nil
  · exact Lo.nil
theorem lo_da (t : ℕ) (h : t ≤ 15) : Lo (t + 2) (da p t) := by
  unfold da; split
  · exact Lo.cons ⟨rfl, le_refl _, by show t + 2 < 19; omega⟩ Lo.nil
  · exact Lo.nil

/-! ## The blocks of `x` -/

/-- Hop `h`'s block passed on: the successor's slot, and the counts at both ends; -/
def fTX (h : ℕ) : sProp 𝕄 := iprop(writeTok ES (nxt p, h + 1) 1 ∗ dutyTok ER (cXS p h) (h / 4) 0 ∗ dutyTok ER (cXR (nxt p) (h + 1)) ((h + 1) / 4) 0)
/-- its slot given back. -/
def fGX (h : ℕ) : sProp 𝕄 := iprop(dutyTok ER (cXC (prv p)) 0 h ∗ readerAt ES (p, h + 4) 0)
/-- The waits for blocks and for credits. -/
def fCX (h : ℕ) : sProp 𝕄 := cred (tallyAt (cXR p h) (h + 1) NB)
def fCXC (i : ℕ) : sProp 𝕄 := cred (tallyAt (cXC p) (i + 2) 1)
/-- The positions of the four pairs of semaphores. -/
def fPXR (h : ℕ) : sProp 𝕄 := iprop(atPos ER (cXR p h) (h / 4) ∅ 0 ∗ reached ER (cXR p h) (h / 4))
def fPXS (h : ℕ) : sProp 𝕄 := iprop(atPos ER (cXS p h) (h / 4) ∅ 0 ∗ reached ER (cXS p h) (h / 4))

theorem fPXR_next (h : ℕ) : iprop(atPos ER (cXR p h) (h / 4 + 1) ∅ 0 ∗ reached ER (cXR p h) (h / 4 + 1)) = (fPXR p (h + 4) : sProp 𝕄) := by
  unfold fPXR; rw [cXR_next, show (h + 4) / 4 = h / 4 + 1 by omega]
theorem fPXS_next (h : ℕ) : iprop(atPos ER (cXS p h) (h / 4 + 1) ∅ 0 ∗ reached ER (cXS p h) (h / 4 + 1)) = (fPXS p (h + 4) : sProp 𝕄) := by
  unfold fPXS; rw [cXS_next, show (h + 4) / 4 = h / 4 + 1 by omega]

/-- Hop `t + 1` of the successor may be written. -/
def mayX (t : ℕ) : sProp 𝕄 := if t ≤ 14 then xok (nxt p) (t + 1) else iprop(emp)
instance mayX_persistent (t : ℕ) : BI.Persistent (mayX (F := F) p t) := by unfold mayX; split <;> infer_instance

/-- Hop `t`'s block while it is passed on: half of it is with the copy. -/
def onX (t : ℕ) : sProp 𝕄 :=
  if t ≤ 14 then iprop(owns (p : Thread nD τ) (xs t) fullShare.right (xv I (back t p)) ∗ cred (tallyAt (cXS p t) 0 NB))
  else owns (p : Thread nD τ) (xs t) fullShare (xv I (back t p))

theorem xArrive_step (t : ℕ) (h1 : 1 ≤ t) (h : t ≤ 15) (D : List (Pay nD τ sig)) (hD : Lo (t + 2) D) (Q : PUnit → sProp 𝕄) :
    iprop(Know I ∗ bigSep (Finset.Ico t 16) (fCX p) ∗ bigSep (Finset.Ico t (t + 4)) (fPXR p) ∗ ow p D)
      ⊢ iprop(((bigSep (Finset.Ico (t + 1) 16) (fCX p) ∗ bigSep (Finset.Ico (t + 1) (t + 1 + 4)) (fPXR p) ∗ ow p D
            ∗ reached ER (cXR p (t + 4)) ((t + 4) / 4) ∗ owns (p : Thread nD τ) (xs t) fullShare (xv I (back t p))) -∗ Q ⟨⟩)
          -∗ WP p (xArrive t) Q) := by
  rw [bs_take (show t < 16 by omega), bs_take (show t < t + 4 by omega), show t + 1 + 4 = t + 4 + 1 by omega, bs_push (show t + 1 ≤ t + 4 by omega)]
  unfold xArrive fCX
  iintro ⟨#HK, ⟨Hc, HC⟩, ⟨Hat, HP⟩, HO⟩ Hk
  ihave Hat := (show fPXR p t ⊢ iprop(atPos ER (cXR p t) (t / 4) ∅ 0 ∗ reached ER (cXR p t) (t / 4)) from .rfl) $$ Hat
  icases Hat with ⟨Hat, -⟩
  iapply (wp_arrive I p (xRecv t).sem (xr_le t) (t / 4) (t + 1) (by omega) D hD (duties_xr I p t h1 h) (xs t) (xs t) (xs_words t) (xs_words t) (credit_xs t) Q)
    $$ [Hc HO Hat]
  · isplitr; · iexact HK
    isplitl [Hc]; · iexact Hc
    isplitl [HO]; · iexact HO
    iexact Hat
  iintro ⟨HO, Hat, #Hr, Hpay⟩
  ihave Hpay := (Entails.of_eq (payload_xr I p t 0)) $$ Hpay
  iapply Hk
  isplitl [HC]; · iexact HC
  isplitl [Hat HP]
  · isplitl [Hat]
    · iapply (Entails.of_eq (fPXR_next p t))
      isplitl [Hat]; · iexact Hat
      iexact Hr
    iexact HP
  isplitl [HO]; · iexact HO
  isplitr
  · iapply (Entails.of_eq (show reached ER (cXR p t) (t / 4 + 1) = (reached ER (cXR p (t + 4)) ((t + 4) / 4) : sProp 𝕄) by
      rw [cXR_next, show (t + 4) / 4 = t / 4 + 1 by omega]))
    iexact Hr
  iexact Hpay

theorem xGot_step (t : ℕ) (h1 : 1 ≤ t) (h : t ≤ 15) (D : List (Pay nD τ sig)) (hD : Lo (t + 2) D) (Q : PUnit → sProp 𝕄) :
    iprop(Know I ∗ ready (nxt p) ∗ bigSep (Finset.Ico (t - 3) 12) (fCXC p) ∗ crSt I (cXC p) (min (t - 3) 12) ∗ ow p D)
      ⊢ iprop(((bigSep (Finset.Ico (t + 1 - 3) 12) (fCXC p) ∗ crSt I (cXC p) (min (t + 1 - 3) 12) ∗ ow p D ∗ mayX p t) -∗ Q ⟨⟩)
          -∗ WP p (if 3 ≤ t ∧ t ≤ 14 then xGot else pure ⟨⟩) Q) := by
  by_cases hc : 3 ≤ t ∧ t ≤ 14
  · rw [if_pos hc, bs_take (show t - 3 < 12 by omega), show t + 1 - 3 = t - 3 + 1 by omega, show min (t - 3) 12 = t - 3 by omega,
      show min (t - 3 + 1) 12 = t - 3 + 1 by omega]
    unfold xGot mayX fCXC
    rw [if_pos hc.2]
    iintro ⟨#HK, -, ⟨Hc, HC⟩, Hcr, HO⟩ Hk
    iapply (wp_credit I p xCred.sem 12 (t - 3) (t - 3 + 2) (by omega) (by omega) D (hD.mono (by omega)) (duties_xc I p)
      (fun i => xok (nxt p) (i + 4)) (fun j => inferInstance) (fun j => payload_xc I p 0 j) Q) $$ [Hc HO Hcr]
    · isplitr; · iexact HK
      isplitl [Hc]; · iexact Hc
      isplitl [HO]; · iexact HO
      iexact Hcr
    iintro ⟨HO, Hcr, Hx⟩
    iapply Hk
    isplitl [HC]; · iexact HC
    isplitl [Hcr]; · iexact Hcr
    isplitl [HO]; · iexact HO
    iapply (Entails.of_eq (show xok (nxt p) (t - 3 + 4) = (xok (nxt p) (t + 1) : sProp 𝕄) by rw [show t - 3 + 4 = t + 1 by omega]))
    iexact Hx
  · rw [if_neg hc]
    have hm : ready (nxt p) ⊢ (mayX p t : sProp 𝕄) := by
      unfold mayX ready
      by_cases h3 : t ≤ 14
      · rw [if_pos h3]
        obtain rfl | rfl : t = 1 ∨ t = 2 := by omega
        · iintro ⟨-, H, -⟩; iexact H
        · iintro ⟨-, -, H, -⟩; iexact H
      · rw [if_neg h3]; iintro -; iempintro
    have hC : bigSep (Finset.Ico (t - 3) 12) (fCXC p) = (bigSep (Finset.Ico (t + 1 - 3) 12) (fCXC p) : sProp 𝕄) := by
      by_cases h3 : t < 3
      · rw [show t + 1 - 3 = t - 3 by omega]
      · rw [bs_none (by omega), bs_none (by omega)]
    rw [hC, show min (t - 3) 12 = min (t + 1 - 3) 12 by omega]
    unfold WP
    rw [show (pure ⟨⟩ : PROG F PUnit) = Prog.ret ⟨⟩ from rfl, wp_ret]
    iintro ⟨#HK, Hr, HC, Hcr, HO⟩ Hk
    imodintro
    iapply Hk
    isplitl [HC]; · iexact HC
    isplitl [Hcr]; · iexact Hcr
    isplitl [HO]; · iexact HO
    iapply hm; iexact Hr

theorem xStart_step (t : ℕ) (h : t ≤ 15) (D : List (Pay nD τ sig)) (Q : PUnit → sProp 𝕄) :
    iprop(Know I ∗ bigSep (Finset.Ico t 15) (fTX p) ∗ bigSep (Finset.Ico (min t 15) (min t 15 + 4)) (fPXS p) ∗ ow p (dx p t ++ D) ∗ mayX p t
        ∗ owns (p : Thread nD τ) (xs t) fullShare (xv I (back t p)))
      ⊢ iprop(((bigSep (Finset.Ico (t + 1) 15) (fTX p) ∗ bigSep (Finset.Ico (min t 15) (min t 15 + 4)) (fPXS p) ∗ ow p D ∗ onX I p t) -∗ Q ⟨⟩)
          -∗ WP p (if t ≤ 14 then xStart p t else pure ⟨⟩) Q) := by
  by_cases hc : t ≤ 14
  · rw [if_pos hc, bs_take (show t < 15 by omega), bs_take (show min t 15 < min t 15 + 4 by omega), show min t 15 = t by omega]
    unfold xStart mayX onX dx
    rw [if_pos hc, if_pos hc, if_pos hc, List.singleton_append]
    iintro ⟨#HK, ⟨HT, HTX⟩, ⟨HP, HPX⟩, HO, Hok, Hx⟩ Hk
    ihave HT := (show fTX p t ⊢ iprop(writeTok ES (nxt p, t + 1) 1 ∗ dutyTok ER (cXS p t) (t / 4) 0 ∗ dutyTok ER (cXR (nxt p) (t + 1)) ((t + 1) / 4) 0) from .rfl) $$ HT
    icases HT with ⟨Hw, HtS, HtR⟩
    ihave HP := (show fPXS p t ⊢ iprop(atPos ER (cXS p t) (t / 4) ∅ 0 ∗ reached ER (cXS p t) (t / 4)) from .rfl) $$ HP
    icases HP with ⟨Hat, #HrS⟩
    ihave Hok := (show xok (nxt p) (t + 1) ⊢ iprop(released ES (nxt p, t + 1) 1 ∗ reached ER (cXR (nxt p) (t + 1)) ((t + 1) / 4)) from .rfl) $$ Hok
    icases Hok with ⟨Hrel, #HrR⟩
    unfold WP
    iapply (fupd_wp frame)
    imod (take I (nxt p, t + 1) (by unfold keys; simp; omega)) $$ [Hrel Hw] with Hd
    · isplitr; · iexact HK
      isplitl [Hrel] <;> iassumption
    imodintro
    ihave Hd := (Entails.of_eq (show keySlot (nxt p, t + 1) = (fr (nxt p) (xs (t + 1)) : sProp 𝕄) from if_pos (by show t + 1 < 16; omega))) $$ Hd
    ihave Hx := (owns_halves (p : Thread nD τ) (xs t) fullShare (xv I (back t p))).1 $$ Hx
    icases Hx with ⟨Hl, Hr⟩
    have e := wp_copy I p (nxt p) (xs t) (xs (t + 1)) rfl (xs_words t) (xs_words (t + 1)) (xSend t).sem (xRecv (t + 1)).sem ⟨⟨rfl, Or.inl rfl⟩, trivial⟩
      (xs_le t) (xr_le (t + 1)) (t / 4) ((t + 1) / 4) (t + 2) 0 D (duties_xs I p t hc) (duties_xr I (nxt p) (t + 1) (by omega) (by omega)) rfl
      fullShare.left (xv I (back t p)) (Entails.of_eq (payload_xs I p t 0).symm)
      (Entails.of_eq (by rw [payload_xr, show back (t + 1) (nxt p) = back t p from congrArg (back t) (prv_nxt p)])) Q
    unfold WP at e
    iapply e $$ [Hl Hd HO HtS HtR]
    · isplitr; · iexact HK
      isplitl [Hl]; · iexact Hl
      isplitl [Hd]; · iexact Hd
      isplitl [HO]; · iexact HO
      isplitl [HtS]; · iexact HtS
      isplitr; · iexact HrS
      isplitl [HtR]; · iexact HtR
      iexact HrR
    iintro ⟨Hc, HO⟩
    iapply Hk
    isplitl [HTX]; · iexact HTX
    isplitl [Hat HPX]
    · isplitl [Hat]
      · iapply (show iprop(atPos ER (cXS p t) (t / 4) ∅ 0 ∗ reached ER (cXS p t) (t / 4)) ⊢ fPXS p t from .rfl)
        isplitl [Hat]; · iexact Hat
        iexact HrS
      iexact HPX
    isplitl [HO]; · iexact HO
    isplitl [Hr] <;> iassumption
  · rw [if_neg hc, bs_none (show 15 ≤ t by omega), bs_none (show 15 ≤ t + 1 by omega)]
    unfold onX dx WP
    rw [if_neg hc, if_neg hc, List.nil_append, show (pure ⟨⟩ : PROG F PUnit) = Prog.ret ⟨⟩ from rfl, wp_ret]
    iintro ⟨#HK, HTX, HPX, HO, -, Hx⟩ Hk
    imodintro
    iapply Hk
    isplitl [HTX]; · iexact HTX
    isplitl [HPX]; · iexact HPX
    isplitl [HO]; · iexact HO
    iexact Hx

theorem xLoad_step (t : ℕ) (Q : Vec F S1024x1024 .bf16 → sProp 𝕄) :
    onX I p t ⊢ iprop((onX I p t -∗ Q (xv I (back t p))) -∗ WP p (xLoad t) Q) := by
  unfold onX xLoad
  by_cases hc : t ≤ 14
  · rw [if_pos hc]
    iintro ⟨Hx, Hc⟩ Hk
    iapply (wp_look p xcM (r4 t) (fun _ => rfl) _ fullShare.right (xv I (back t p)) Q) $$ Hx
    iintro Hx
    iapply Hk
    isplitl [Hx] <;> iassumption
  · rw [if_neg hc]
    iintro Hx Hk
    iapply (wp_look p xcM (r4 t) (fun _ => rfl) _ fullShare (xv I (back t p)) Q) $$ Hx
    iintro Hx
    iapply Hk
    iexact Hx

theorem xDone_step (t : ℕ) (h : t ≤ 15) (D : List (Pay nD τ sig)) (hD : Lo 1 D) (Q : PUnit → sProp 𝕄) :
    iprop(Know I ∗ bigSep (Finset.Ico (min t 15) (min t 15 + 4)) (fPXS p) ∗ ow p D ∗ onX I p t)
      ⊢ iprop(((bigSep (Finset.Ico (min (t + 1) 15) (min (t + 1) 15 + 4)) (fPXS p) ∗ ow p D
            ∗ owns (p : Thread nD τ) (xs t) fullShare (xv I (back t p))) -∗ Q ⟨⟩)
          -∗ WP p (if t ≤ 14 then xDone t else pure ⟨⟩) Q) := by
  unfold onX
  by_cases hc : t ≤ 14
  · rw [if_pos hc, if_pos hc, bs_take (show min t 15 < min t 15 + 4 by omega), show min t 15 = t by omega, show min (t + 1) 15 = t + 1 by omega,
      show t + 1 + 4 = t + 4 + 1 by omega, bs_push (show t + 1 ≤ t + 4 by omega)]
    unfold xDone
    iintro ⟨#HK, ⟨HP, HPX⟩, HO, Hx, Hc⟩ Hk
    ihave HP := (show fPXS p t ⊢ iprop(atPos ER (cXS p t) (t / 4) ∅ 0 ∗ reached ER (cXS p t) (t / 4)) from .rfl) $$ HP
    icases HP with ⟨Hat, -⟩
    iapply (wp_arrive I p (xSend t).sem (xs_le t) (t / 4) 0 (by omega) D hD (duties_xs I p t hc) (xs (t + 1)) (xs t) (xs_words (t + 1)) (xs_words t) (credit_xs t) Q)
      $$ [Hc HO Hat]
    · isplitr; · iexact HK
      isplitl [Hc]; · iexact Hc
      isplitl [HO]; · iexact HO
      iexact Hat
    iintro ⟨HO, Hat, Hr, Hpay⟩
    ihave Hpay := (Entails.of_eq (payload_xs I p t 0)) $$ Hpay
    iapply Hk
    isplitl [Hat HPX Hr]
    · isplitl [Hat Hr]
      · iapply (Entails.of_eq (fPXS_next p t))
        isplitl [Hat] <;> iassumption
      iexact HPX
    isplitl [HO]; · iexact HO
    iapply (owns_halves (p : Thread nD τ) (xs t) fullShare (xv I (back t p))).2
    isplitl [Hpay] <;> iassumption
  · rw [if_neg hc, if_neg hc, show min (t + 1) 15 = min t 15 by omega]
    unfold WP
    rw [show (pure ⟨⟩ : PROG F PUnit) = Prog.ret ⟨⟩ from rfl, wp_ret]
    iintro ⟨#HK, HPX, HO, Hx⟩ Hk
    imodintro
    iapply Hk
    isplitl [HPX]; · iexact HPX
    isplitl [HO]; · iexact HO
    iexact Hx

/-- What this device has said about its slots up to hop `t`. -/
def saidX (t : ℕ) : sProp 𝕄 := bigSep (Finset.range (min t 12)) (fun i => xok p (i + 4))
instance saidX_persistent (t : ℕ) : BI.Persistent (saidX (F := F) p t) := by unfold saidX; infer_instance
/-- The slots that are not given back. -/
def restX (t : ℕ) : sProp 𝕄 := bigSep (Finset.Ico 12 t) (fun h => fr p (xs h))

theorem bs_range {n : ℕ} (Φ : ℕ → sProp 𝕄) : bigSep (Finset.range (n + 1)) Φ = iprop(Φ n ∗ bigSep (Finset.range n) Φ) := by
  rw [Finset.range_add_one]; exact bs_ins (by simp) Φ

theorem xGive_step (t : ℕ) (h : t ≤ 15) (D : List (Pay nD τ sig)) (Q : PUnit → sProp 𝕄) :
    iprop(Know I ∗ bigSep (Finset.Ico t 12) (fGX p) ∗ saidX p t ∗ restX p t ∗ ow p (dg p t ++ D) ∗ reached ER (cXR p (t + 4)) ((t + 4) / 4)
        ∗ owns (p : Thread nD τ) (xs t) fullShare (xv I (back t p)))
      ⊢ iprop(((bigSep (Finset.Ico (t + 1) 12) (fGX p) ∗ saidX p (t + 1) ∗ restX p (t + 1) ∗ ow p D) -∗ Q ⟨⟩)
          -∗ WP p (if t ≤ 11 then xGive p else pure ⟨⟩) Q) := by
  unfold saidX restX dg
  by_cases hc : t ≤ 11
  · rw [if_pos hc, if_pos hc, bs_take (show t < 12 by omega), List.singleton_append, bs_none (show t ≤ 12 by omega), bs_none (show t + 1 ≤ 12 by omega),
      show min t 12 = t by omega, show min (t + 1) 12 = t + 1 by omega]
    unfold xGive
    iintro ⟨#HK, ⟨HG, HGX⟩, #HS, -, HO, #Hr, Hx⟩ Hk
    ihave HG := (show fGX p t ⊢ iprop(dutyTok ER (cXC (prv p)) 0 t ∗ readerAt ES (p, t + 4) 0) from .rfl) $$ HG
    icases HG with ⟨Ht, Hrd⟩
    unfold WP
    iapply (fupd_wp frame)
    imod (release I (p, t + 4) (by unfold keys; simp; omega)) $$ [Hrd Hx] with #Hrel
    · isplitr; · iexact HK
      isplitl [Hrd]; · iexact Hrd
      iapply (Entails.of_eq (show (fr p (xs t) : sProp 𝕄) = keySlot (p, t + 4) by
        rw [← xs_next]; exact (if_pos (by show t + 4 < 16; omega)).symm))
      iapply (owns_fr p (xs t) (xv I (back t p)))
      iexact Hx
    imodintro
    have hsaid : iprop(xok p (t + 4) ∗ bigSep (Finset.range t) (fun i => xok p (i + 4))) = (bigSep (Finset.range (t + 1)) (fun i => xok p (i + 4)) : sProp 𝕄) :=
      by rw [bs_range]
    ihave #HS' := (Entails.of_eq hsaid) $$ []
    · isplitr
      · iapply (show iprop(released ES (p, t + 4) 1 ∗ reached ER (cXR p (t + 4)) ((t + 4) / 4)) ⊢ xok p (t + 4) from .rfl)
        isplitr; · iexact Hrel
        iexact Hr
      iexact HS
    have e := wp_tell I p (prv p) xCred.sem 0 t (t + 2) D (by rw [duties_xc]; exact Finset.mem_range.mpr (by omega)) Q
    unfold WP at e
    iapply e $$ [HO Ht]
    · isplitr; · iexact HK
      isplitl [HO]; · iexact HO
      isplitl [Ht]; · iexact Ht
      isplitr
      · iapply (Entails.of_eq (show bigSep (Finset.range (t + 1)) (fun i => xok p (i + 4)) = (Rd I).payload (cXC (prv p)) 0 t by
          rw [payload_xc, nxt_prv]))
        iexact HS'
      iapply (know_zero I (prv p) (.reg xCred.sem) (code_reg_le _)); iexact HK
    iintro HO
    iapply Hk
    isplitl [HGX]; · iexact HGX
    isplitr; · iexact HS'
    isplitr; · iempintro
    iexact HO
  · rw [if_neg hc, if_neg hc, List.nil_append, bs_none (show 12 ≤ t by omega), bs_none (show 12 ≤ t + 1 by omega), bs_push (show 12 ≤ t by omega),
      show min (t + 1) 12 = min t 12 by omega]
    unfold WP
    rw [show (pure ⟨⟩ : PROG F PUnit) = Prog.ret ⟨⟩ from rfl, wp_ret]
    iintro ⟨#HK, HGX, #HS, HR, HO, -, Hx⟩ Hk
    imodintro
    iapply Hk
    isplitl [HGX]; · iexact HGX
    isplitr; · iexact HS
    isplitl [HR Hx]
    · isplitl [Hx]
      · iapply (owns_fr p (xs t) (xv I (back t p))); iexact Hx
      iexact HR
    iexact HO

/-! ## The partial sums -/

/-- Partial sum `s` sent: the successor's slot, and the counts at both ends; -/
def fTA (s : ℕ) : sProp 𝕄 := iprop(writeTok ES (nxt p, 16 + s) 1 ∗ dutyTok ER (cAS p s) (s / 2) 0 ∗ dutyTok ER (cAR (nxt p) s) (s / 2) 0)
/-- the slot of one that has arrived given back. -/
def fGA (s : ℕ) : sProp 𝕄 := iprop(dutyTok ER (cAC (prv p)) 0 s ∗ readerAt ES (p, 16 + (s + 2)) 0)
def fCA (s : ℕ) : sProp 𝕄 := cred (tallyAt (cAR p s) (s + 3) NB)
def fCAC (j : ℕ) : sProp 𝕄 := cred (tallyAt (cAC p) (j + 4) 1)
def fPAR (s : ℕ) : sProp 𝕄 := iprop(atPos ER (cAR p s) (s / 2) ∅ 0 ∗ reached ER (cAR p s) (s / 2))
def fPAS (s : ℕ) : sProp 𝕄 := iprop(atPos ER (cAS p s) (s / 2) ∅ 0 ∗ reached ER (cAS p s) (s / 2))

theorem fPAR_next (s : ℕ) : iprop(atPos ER (cAR p s) (s / 2 + 1) ∅ 0 ∗ reached ER (cAR p s) (s / 2 + 1)) = (fPAR p (s + 2) : sProp 𝕄) := by
  unfold fPAR; rw [cAR_next, show (s + 2) / 2 = s / 2 + 1 by omega]
theorem fPAS_next (s : ℕ) : iprop(atPos ER (cAS p s) (s / 2 + 1) ∅ 0 ∗ reached ER (cAS p s) (s / 2 + 1)) = (fPAS p (s + 2) : sProp 𝕄) := by
  unfold fPAS; rw [cAS_next, show (s + 2) / 2 = s / 2 + 1 by omega]

theorem aArrive_step (s : ℕ) (h : s ≤ 14) (D : List (Pay nD τ sig)) (hD : Lo (s + 4) D) (Q : PUnit → sProp 𝕄) :
    iprop(Know I ∗ bigSep (Finset.Ico s 15) (fCA p) ∗ bigSep (Finset.Ico s (s + 2)) (fPAR p) ∗ ow p D)
      ⊢ iprop(((bigSep (Finset.Ico (s + 1) 15) (fCA p) ∗ bigSep (Finset.Ico (s + 1) (s + 1 + 2)) (fPAR p) ∗ ow p D
            ∗ reached ER (cAR p (s + 2)) ((s + 2) / 2) ∗ owns (p : Thread nD τ) (ar s) fullShare (psum I s (prv p))) -∗ Q ⟨⟩)
          -∗ WP p (aArrive s) Q) := by
  rw [bs_take (show s < 15 by omega), bs_take (show s < s + 2 by omega), show s + 1 + 2 = s + 2 + 1 by omega, bs_push (show s + 1 ≤ s + 2 by omega)]
  unfold aArrive fCA
  iintro ⟨#HK, ⟨Hc, HC⟩, ⟨Hat, HP⟩, HO⟩ Hk
  ihave Hat := (show fPAR p s ⊢ iprop(atPos ER (cAR p s) (s / 2) ∅ 0 ∗ reached ER (cAR p s) (s / 2)) from .rfl) $$ Hat
  icases Hat with ⟨Hat, -⟩
  iapply (wp_arrive I p (aRecv s).sem (ar_le s) (s / 2) (s + 3) (by omega) D hD (duties_ar I p s h) (ao s) (ar s) (ao_words s) (ar_words s) (credit_ar s) Q)
    $$ [Hc HO Hat]
  · isplitr; · iexact HK
    isplitl [Hc]; · iexact Hc
    isplitl [HO]; · iexact HO
    iexact Hat
  iintro ⟨HO, Hat, #Hr, Hpay⟩
  ihave Hpay := (Entails.of_eq (payload_ar I p s 0)) $$ Hpay
  iapply Hk
  isplitl [HC]; · iexact HC
  isplitl [Hat HP]
  · isplitl [Hat]
    · iapply (Entails.of_eq (fPAR_next p s))
      isplitl [Hat]; · iexact Hat
      iexact Hr
    iexact HP
  isplitl [HO]; · iexact HO
  isplitr
  · iapply (Entails.of_eq (show reached ER (cAR p s) (s / 2 + 1) = (reached ER (cAR p (s + 2)) ((s + 2) / 2) : sProp 𝕄) by
      rw [cAR_next, show (s + 2) / 2 = s / 2 + 1 by omega]))
    iexact Hr
  iexact Hpay

theorem aLoad_step (s : ℕ) (Q : Vec F S1024x1024 .bf16 → sProp 𝕄) :
    owns (p : Thread nD τ) (ar s) fullShare (psum I s (prv p))
      ⊢ iprop((owns (p : Thread nD τ) (ar s) fullShare (psum I s (prv p)) -∗ Q (psum I s (prv p))) -∗ WP p (aLoad s) Q) := by
  unfold aLoad
  exact wp_look p arM (r2 s) (fun _ => rfl) _ fullShare (psum I s (prv p)) Q

theorem keySlot_ar (d : Dev nD) (s : ℕ) : (keySlot (d, 16 + s) : sProp 𝕄) = fr d (ar s) := by
  unfold keySlot
  rw [if_neg (by show ¬ 16 + s < 16; omega)]
  show fr d (ar (16 + s - 16)) = _
  rw [Nat.add_sub_cancel_left]

def saidA (t : ℕ) : sProp 𝕄 := bigSep (Finset.range (min (t - 2) 13)) (fun i => aok p (i + 2))
instance saidA_persistent (t : ℕ) : BI.Persistent (saidA (F := F) p t) := by unfold saidA; infer_instance
def restA (t : ℕ) : sProp 𝕄 := bigSep (Finset.Ico 13 (t - 2)) (fun s => fr p (ar s))

theorem aGive_step (t : ℕ) (h2 : 2 ≤ t) (h : t ≤ 15) (D : List (Pay nD τ sig)) (Q : PUnit → sProp 𝕄) :
    iprop(Know I ∗ bigSep (Finset.Ico (t - 2) 13) (fGA p) ∗ saidA p t ∗ restA p t ∗ ow p (dga p t ++ D) ∗ reached ER (cAR p (t - 2 + 2)) ((t - 2 + 2) / 2)
        ∗ owns (p : Thread nD τ) (ar (t - 2)) fullShare (psum I (t - 2) (prv p)))
      ⊢ iprop(((bigSep (Finset.Ico (t + 1 - 2) 13) (fGA p) ∗ saidA p (t + 1) ∗ restA p (t + 1) ∗ ow p D) -∗ Q ⟨⟩)
          -∗ WP p (if t ≤ 14 then aGive p else pure ⟨⟩) Q) := by
  obtain ⟨s, rfl⟩ : ∃ s, t = s + 2 := ⟨t - 2, by omega⟩
  unfold saidA restA dga
  rw [show s + 2 - 2 = s by omega, show s + 2 + 1 - 2 = s + 1 by omega]
  by_cases hc : s + 2 ≤ 14
  · rw [if_pos hc, if_pos ⟨h2, hc⟩, bs_take (show s < 13 by omega), List.singleton_append, bs_none (show s ≤ 13 by omega), bs_none (show s + 1 ≤ 13 by omega),
      show min s 13 = s by omega, show min (s + 1) 13 = s + 1 by omega]
    unfold aGive
    iintro ⟨#HK, ⟨HG, HGX⟩, #HS, -, HO, #Hr, Hx⟩ Hk
    ihave HG := (show fGA p s ⊢ iprop(dutyTok ER (cAC (prv p)) 0 s ∗ readerAt ES (p, 16 + (s + 2)) 0) from .rfl) $$ HG
    icases HG with ⟨Ht, Hrd⟩
    unfold WP
    iapply (fupd_wp frame)
    imod (release I (p, 16 + (s + 2)) (by unfold keys; simp; omega)) $$ [Hrd Hx] with #Hrel
    · isplitr; · iexact HK
      isplitl [Hrd]; · iexact Hrd
      iapply (Entails.of_eq (show (fr p (ar s) : sProp 𝕄) = keySlot (p, 16 + (s + 2)) by
        rw [← ar_next, keySlot_ar]))
      iapply (owns_fr p (ar s) (psum I s (prv p)))
      iexact Hx
    imodintro
    have hsaid : iprop(aok p (s + 2) ∗ bigSep (Finset.range s) (fun i => aok p (i + 2))) = (bigSep (Finset.range (s + 1)) (fun i => aok p (i + 2)) : sProp 𝕄) :=
      by rw [bs_range]
    ihave #HS' := (Entails.of_eq hsaid) $$ []
    · isplitr
      · iapply (show iprop(released ES (p, 16 + (s + 2)) 1 ∗ reached ER (cAR p (s + 2)) ((s + 2) / 2)) ⊢ aok p (s + 2) from .rfl)
        isplitr; · iexact Hrel
        iexact Hr
      iexact HS
    have e := wp_tell I p (prv p) aCred.sem 0 s (s + 2 + 2) D (by rw [duties_ac]; exact Finset.mem_range.mpr (by omega)) Q
    unfold WP at e
    iapply e $$ [HO Ht]
    · isplitr; · iexact HK
      isplitl [HO]; · iexact HO
      isplitl [Ht]; · iexact Ht
      isplitr
      · iapply (Entails.of_eq (show bigSep (Finset.range (s + 1)) (fun i => aok p (i + 2)) = (Rd I).payload (cAC (prv p)) 0 s by
          rw [payload_ac, nxt_prv]))
        iexact HS'
      iapply (know_zero I (prv p) (.reg aCred.sem) (code_reg_le _)); iexact HK
    iintro HO
    iapply Hk
    isplitl [HGX]; · iexact HGX
    isplitr; · iexact HS'
    isplitr; · iempintro
    iexact HO
  · rw [if_neg hc, if_neg (fun h => hc h.2), List.nil_append, bs_none (show 13 ≤ s by omega), bs_none (show 13 ≤ s + 1 by omega), bs_push (show 13 ≤ s by omega),
      show min (s + 1) 13 = min s 13 by omega]
    unfold WP
    rw [show (pure ⟨⟩ : PROG F PUnit) = Prog.ret ⟨⟩ from rfl, wp_ret]
    iintro ⟨#HK, HGX, #HS, HR, HO, -, Hx⟩ Hk
    imodintro
    iapply Hk
    isplitl [HGX]; · iexact HGX
    isplitr; · iexact HS
    isplitl [HR Hx]
    · isplitl [Hx]
      · iapply (owns_fr p (ar s) (psum I s (prv p))); iexact Hx
      iexact HR
    iexact HO

theorem aGot_step (t : ℕ) (h2 : 2 ≤ t) (h : t ≤ 15) (D : List (Pay nD τ sig)) (hD : Lo (t + 2) D) (Q : PUnit → sProp 𝕄) :
    iprop(Know I ∗ ready (nxt p) ∗ bigSep (Finset.Ico (t - 3) 13) (fCAC p) ∗ crSt I (cAC p) (t - 3) ∗ ow p D)
      ⊢ iprop(((bigSep (Finset.Ico (t + 1 - 3) 13) (fCAC p) ∗ crSt I (cAC p) (t + 1 - 3) ∗ ow p D ∗ aok (nxt p) (t - 1)) -∗ Q ⟨⟩)
          -∗ WP p (if 3 ≤ t then aGot else pure ⟨⟩) Q) := by
  by_cases hc : 3 ≤ t
  · rw [if_pos hc, bs_take (show t - 3 < 13 by omega), show t + 1 - 3 = t - 3 + 1 by omega]
    unfold aGot fCAC
    iintro ⟨#HK, -, ⟨Hc, HC⟩, Hcr, HO⟩ Hk
    iapply (wp_credit I p aCred.sem 13 (t - 3) (t - 3 + 4) (by omega) (by omega) D (hD.mono (by omega)) (duties_ac I p)
      (fun i => aok (nxt p) (i + 2)) (fun j => inferInstance) (fun j => payload_ac I p 0 j) Q) $$ [Hc HO Hcr]
    · isplitr; · iexact HK
      isplitl [Hc]; · iexact Hc
      isplitl [HO]; · iexact HO
      iexact Hcr
    iintro ⟨HO, Hcr, Hx⟩
    iapply Hk
    isplitl [HC]; · iexact HC
    isplitl [Hcr]; · iexact Hcr
    isplitl [HO]; · iexact HO
    iapply (Entails.of_eq (show aok (nxt p) (t - 3 + 2) = (aok (nxt p) (t - 1) : sProp 𝕄) by rw [show t - 3 + 2 = t - 1 by omega]))
    iexact Hx
  · obtain rfl : t = 2 := by omega
    rw [if_neg hc]
    unfold WP
    rw [show (pure ⟨⟩ : PROG F PUnit) = Prog.ret ⟨⟩ from rfl, wp_ret]
    iintro ⟨#HK, Hr, HC, Hcr, HO⟩ Hk
    imodintro
    iapply Hk
    isplitl [HC]; · iexact HC
    isplitl [Hcr]; · iexact Hcr
    isplitl [HO]; · iexact HO
    unfold ready
    icases Hr with ⟨-, -, -, -, Hr⟩
    iexact Hr

/-- Partial sum `s` is put into its slot, sent, and waited for. -/
theorem aSendOff_step (s : ℕ) (h : s ≤ 14) (v : FVec F S1024x1024 .bf16) (hv : v = psum I s p) (D : List (Pay nD τ sig)) (hD : Lo 1 D) (Q : PUnit → sProp 𝕄) :
    iprop(Know I ∗ bigSep (Finset.Ico s 15) (fTA p) ∗ bigSep (Finset.Ico s (s + 2)) (fPAS p) ∗ ow p ((cAR (nxt p) s, s + 3, NB) :: D) ∗ aok (nxt p) s ∗ fr p (ao s))
      ⊢ iprop(((bigSep (Finset.Ico (s + 1) 15) (fTA p) ∗ bigSep (Finset.Ico (s + 1) (s + 1 + 2)) (fPAS p) ∗ ow p D ∗ fr p (ao s)) -∗ Q ⟨⟩)
          -∗ WP p (aSendOff p s v) Q) := by
  rw [bs_take (show s < 15 by omega), bs_take (show s < s + 2 by omega), show s + 1 + 2 = s + 2 + 1 by omega, bs_push (show s + 1 ≤ s + 2 by omega)]
  iintro ⟨#HK, ⟨HT, HTX⟩, ⟨HP, HPX⟩, HO, Hok, Hx⟩ Hk
  ihave HT := (show fTA p s ⊢ iprop(writeTok ES (nxt p, 16 + s) 1 ∗ dutyTok ER (cAS p s) (s / 2) 0 ∗ dutyTok ER (cAR (nxt p) s) (s / 2) 0) from .rfl) $$ HT
  icases HT with ⟨Hw, HtS, HtR⟩
  ihave HP := (show fPAS p s ⊢ iprop(atPos ER (cAS p s) (s / 2) ∅ 0 ∗ reached ER (cAS p s) (s / 2)) from .rfl) $$ HP
  icases HP with ⟨Hat, #HrS⟩
  ihave Hok := (show aok (nxt p) s ⊢ iprop(released ES (nxt p, 16 + s) 1 ∗ reached ER (cAR (nxt p) s) (s / 2)) from .rfl) $$ Hok
  icases Hok with ⟨Hrel, #HrR⟩
  unfold aSendOff WP
  rw [wp_bind]
  iapply (wp_peek p asM (r2 s) (fun _ => rfl) _ _) $$ Hx
  iintro %X Hx
  rw [wp_bind]
  iapply (wp_put p asM (r2 s) (fun _ => rfl) v _ _ _) $$ Hx
  iintro Hx
  rw [wp_bind]
  iapply (fupd_wp frame)
  imod (take I (nxt p, 16 + s) (by unfold keys; simp; omega)) $$ [Hrel Hw] with Hd
  · isplitr; · iexact HK
    isplitl [Hrel] <;> iassumption
  imodintro
  ihave Hd := (Entails.of_eq (keySlot_ar (nxt p) s)) $$ Hd
  have e := fun Q => wp_copy I p (nxt p) (ao s) (ar s) rfl (ao_words s) (ar_words s) (aSend s).sem (aRecv s).sem ⟨⟨rfl, Or.inl rfl⟩, trivial⟩
    (as_le s) (ar_le s) (s / 2) (s / 2) (s + 3) 0 D (duties_as I p s h) (duties_ar I (nxt p) s h) rfl
    fullShare v ((owns_fr p (ao s) v).trans (Entails.of_eq (payload_as I p s 0).symm))
    (Entails.of_eq (by rw [payload_ar, prv_nxt, hv])) Q
  unfold WP at e
  iapply (e _) $$ [Hx Hd HO HtS HtR]
  · isplitr; · iexact HK
    isplitl [Hx]; · iexact Hx
    isplitl [Hd]; · iexact Hd
    isplitl [HO]; · iexact HO
    isplitl [HtS]; · iexact HtS
    isplitr; · iexact HrS
    isplitl [HtR]; · iexact HtR
    iexact HrR
  iintro ⟨Hc, HO⟩
  have e2 := wp_arrive I p (aSend s).sem (as_le s) (s / 2) 0 (by omega) D hD (duties_as I p s h) (ar s) (ao s) (ar_words s) (ao_words s) (credit_ao s) Q
  unfold WP at e2
  iapply e2 $$ [Hc HO Hat]
  · isplitr; · iexact HK
    isplitl [Hc]; · iexact Hc
    isplitl [HO]; · iexact HO
    iexact Hat
  iintro ⟨HO, Hat, Hr, Hpay⟩
  ihave Hpay := (Entails.of_eq (payload_as I p s 0)) $$ Hpay
  iapply Hk
  isplitl [HTX]; · iexact HTX
  isplitl [Hat Hr HPX]
  · isplitl [Hat Hr]
    · iapply (Entails.of_eq (fPAS_next p s))
      isplitl [Hat] <;> iassumption
    iexact HPX
  isplitl [HO]; · iexact HO
  iexact Hpay

end Cert.AgRs

end
-- ==== Proof.Hop.lean ====
/-
  A hop as one step of the device's state; the hops in a row; the entry, the own contribution, and the exit.
-/
module

public import proofs.«01_k».proof.Proof.Steps

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

variable (p : Dev nD)

/-! ## The state before hop `t` -/

def StX (t : ℕ) : sProp 𝕄 :=
  iprop(bigSep (Finset.Ico t 15) (fTX p) ∗ bigSep (Finset.Ico (min t 15) (min t 15 + 4)) (fPXS p) ∗ bigSep (Finset.Ico t 16) (fCX p)
    ∗ bigSep (Finset.Ico t (t + 4)) (fPXR p) ∗ bigSep (Finset.Ico (t - 3) 12) (fCXC p) ∗ crSt I (cXC p) (min (t - 3) 12)
    ∗ bigSep (Finset.Ico t 12) (fGX p) ∗ saidX p t ∗ restX p t)

def StA (t : ℕ) : sProp 𝕄 :=
  iprop(bigSep (Finset.Ico (t - 1) 15) (fTA p) ∗ bigSep (Finset.Ico (t - 1) (t - 1 + 2)) (fPAS p) ∗ bigSep (Finset.Ico (t - 2) 15) (fCA p)
    ∗ bigSep (Finset.Ico (t - 2) (t - 2 + 2)) (fPAR p) ∗ bigSep (Finset.Ico (t - 3) 13) (fCAC p) ∗ crSt I (cAC p) (t - 3)
    ∗ bigSep (Finset.Ico (t - 2) 13) (fGA p) ∗ saidA p t ∗ restA p t ∗ fr p (ao (t - 1)) ∗ fr p (ao t))

theorem hopX_eq (t : ℕ) : (hopX p t : PROG F _) =
    (xArrive t >>= fun _ => (if 3 ≤ t ∧ t ≤ 14 then xGot else pure ⟨⟩) >>= fun _ => (if t ≤ 14 then xStart p t else pure ⟨⟩) >>= fun _ =>
      xLoad t >>= fun xb => contrib xb >>= fun c => (if t ≤ 14 then xDone t else pure ⟨⟩) >>= fun _ =>
        (if t ≤ 11 then xGive p else pure ⟨⟩) >>= fun _ => pure c) := by
  unfold hopX
  split_ifs <;> rfl

theorem hopA_eq (t : ℕ) (h : ¬ t = 1) (c : FVec F S1024x1024 .f32) : (hopA p t c : PROG F _) =
    (aArrive (t - 2) >>= fun _ => aLoad (t - 2) >>= fun a => (if t ≤ 14 then aGive p else pure ⟨⟩) >>= fun _ =>
      (if 3 ≤ t then aGot else pure ⟨⟩) >>= fun _ => aSendOff p (t - 1) (k0_pay7 c a)) := by
  unfold hopA
  rw [if_neg h]
  split_ifs <;> rfl

theorem hopX_step (t : ℕ) (h1 : 1 ≤ t) (h : t ≤ 15) (D : List (Pay nD τ sig)) (hD : Lo (t + 2) D) (Q : FVec F S1024x1024 .f32 → sProp 𝕄) :
    iprop(Know I ∗ ready (nxt p) ∗ StX I p t ∗ wts I p ∗ ow p (dx p t ++ (dg p t ++ D)))
      ⊢ iprop(((StX I p (t + 1) ∗ wts I p ∗ ow p D) -∗ Q (contribV I p (xv I (back t p)))) -∗ WP p (hopX p t) Q) := by
  have hD2 : Lo (t + 2) (dg p t ++ D) := (lo_dg p t h).append hD
  unfold StX WP
  rw [hopX_eq]
  iintro ⟨#HK, #Hready, ⟨HTX, HPXS, HCX, HPXR, HCXC, Hcr, HGX, HS, HR⟩, Hw, HO⟩ Hk
  rw [wp_bind]
  iapply (xArrive_step I p t h1 h _ ((lo_dx p t h).append hD2) _) $$ [HCX HPXR HO]
  · isplitr; · iexact HK
    isplitl [HCX]; · iexact HCX
    isplitl [HPXR] <;> iassumption
  iintro ⟨HCX, HPXR, HO, Hr, Hx⟩
  rw [wp_bind]
  iapply (xGot_step I p t h1 h _ ((lo_dx p t h).append hD2) _) $$ [HCXC Hcr HO]
  · isplitr; · iexact HK
    isplitr; · iexact Hready
    isplitl [HCXC]; · iexact HCXC
    isplitl [Hcr] <;> iassumption
  iintro ⟨HCXC, Hcr, HO, Hm⟩
  rw [wp_bind]
  iapply (xStart_step I p t h _ _) $$ [HTX HPXS HO Hm Hx]
  · isplitr; · iexact HK
    isplitl [HTX]; · iexact HTX
    isplitl [HPXS]; · iexact HPXS
    isplitl [HO]; · iexact HO
    isplitl [Hm] <;> iassumption
  iintro ⟨HTX, HPXS, HO, Hx⟩
  rw [wp_bind]
  iapply (xLoad_step I p t _) $$ Hx
  iintro Hx
  rw [wp_bind]
  iapply (wp_contrib I p (xv I (back t p)) _) $$ Hw
  iintro Hw
  rw [wp_bind]
  iapply (xDone_step I p t h _ (hD2.mono (by omega)) _) $$ [HPXS HO Hx]
  · isplitr; · iexact HK
    isplitl [HPXS]; · iexact HPXS
    isplitl [HO] <;> iassumption
  iintro ⟨HPXS, HO, Hx⟩
  rw [wp_bind]
  iapply (xGive_step I p t h _ _) $$ [HGX HS HR HO Hr Hx]
  · isplitr; · iexact HK
    isplitl [HGX]; · iexact HGX
    isplitl [HS]; · iexact HS
    isplitl [HR]; · iexact HR
    isplitl [HO]; · iexact HO
    isplitl [Hr] <;> iassumption
  iintro ⟨HGX, HS, HR, HO⟩
  rw [show (pure (contribV I p (xv I (back t p))) : PROG F _) = Prog.ret _ from rfl, wp_ret]
  imodintro
  iapply Hk
  isplitr [Hw HO]
  · isplitl [HTX]; · iexact HTX
    isplitl [HPXS]; · iexact HPXS
    isplitl [HCX]; · iexact HCX
    isplitl [HPXR]; · iexact HPXR
    isplitl [HCXC]; · iexact HCXC
    isplitl [Hcr]; · iexact Hcr
    isplitl [HGX]; · iexact HGX
    isplitl [HS] <;> iassumption
  isplitl [Hw] <;> iassumption

theorem hopA_step (t : ℕ) (h1 : 1 ≤ t) (h : t ≤ 15) (c : FVec F S1024x1024 .f32) (hc : c = contribV I p (xv I (back t p)))
    (D : List (Pay nD τ sig)) (hD : Lo (t + 2) D) (Q : PUnit → sProp 𝕄) :
    iprop(Know I ∗ ready (nxt p) ∗ StA I p t ∗ ow p (dga p t ++ (da p t ++ D)))
      ⊢ iprop(((StA I p (t + 1) ∗ ow p D) -∗ Q ⟨⟩) -∗ WP p (hopA p t c) Q) := by
  have hda : da p t = [(cAR (nxt p) (t - 1), t - 1 + 3, NB)] := by
    unfold da; rw [if_pos ⟨h1, h⟩, show t - 1 + 3 = t + 2 by omega]
  have hD2 : Lo (t + 2) (da p t ++ D) := (lo_da p t h).append hD
  unfold StA WP
  by_cases ht : t = 1
  · subst ht
    rw [show (hopA p 1 c : PROG F _) = aSendOff p 0 (k0_pay4 c) from if_pos rfl, hda, show dga p 1 = [] from rfl, List.nil_append, List.singleton_append]
    iintro ⟨#HK, Hready, ⟨HTA, HPAS, HCA, HPAR, HCAC, Hcr, HGA, HS, HR, Ha, Hb⟩, HO⟩ Hk
    iapply (aSendOff_step I p 0 (by omega) (k0_pay4 c) (by rw [hc]; rfl) D (hD.mono (by omega)) Q) $$ [HTA HPAS HO Hready Ha]
    · isplitr; · iexact HK
      isplitl [HTA]; · iexact HTA
      isplitl [HPAS]; · iexact HPAS
      isplitl [HO]; · iexact HO
      isplitl [Hready]
      · unfold ready; icases Hready with ⟨-, -, -, H, -⟩; iexact H
      iexact Ha
    iintro ⟨HTA, HPAS, HO, Ha⟩
    iapply Hk
    isplitr [HO]
    · isplitl [HTA]; · iexact HTA
      isplitl [HPAS]; · iexact HPAS
      isplitl [HCA]; · iexact HCA
      isplitl [HPAR]; · iexact HPAR
      isplitl [HCAC]; · iexact HCAC
      isplitl [Hcr]; · iexact Hcr
      isplitl [HGA]; · iexact HGA
      isplitl [HS]; · iexact HS
      isplitl [HR]; · iexact HR
      isplitl [Hb]; · iexact Hb
      iapply (Entails.of_eq (show fr p (ao 0) = (fr p (ao (1 + 1)) : sProp 𝕄) by rw [← ao_next 0]))
      iexact Ha
    iexact HO
  · have h2 : 2 ≤ t := by omega
    rw [hopA_eq p t ht]
    iintro ⟨#HK, #Hready, ⟨HTA, HPAS, HCA, HPAR, HCAC, Hcr, HGA, HS, HR, Ha, Hb⟩, HO⟩ Hk
    rw [wp_bind]
    iapply (aArrive_step I p (t - 2) (by omega) _ (((lo_dga p t h).append hD2).mono (by omega)) _) $$ [HCA HPAR HO]
    · isplitr; · iexact HK
      isplitl [HCA]; · iexact HCA
      isplitl [HPAR] <;> iassumption
    iintro ⟨HCA, HPAR, HO, Hr, Hx⟩
    rw [wp_bind]
    iapply (aLoad_step I p (t - 2) _) $$ Hx
    iintro Hx
    rw [wp_bind]
    iapply (aGive_step I p t h2 h _ _) $$ [HGA HS HR HO Hr Hx]
    · isplitr; · iexact HK
      isplitl [HGA]; · iexact HGA
      isplitl [HS]; · iexact HS
      isplitl [HR]; · iexact HR
      isplitl [HO]; · iexact HO
      isplitl [Hr] <;> iassumption
    iintro ⟨HGA, HS, HR, HO⟩
    rw [wp_bind]
    iapply (aGot_step I p t h2 h _ hD2 _) $$ [HCAC Hcr HO]
    · isplitr; · iexact HK
      isplitr; · iexact Hready
      isplitl [HCAC]; · iexact HCAC
      isplitl [Hcr] <;> iassumption
    iintro ⟨HCAC, Hcr, HO, Hm⟩
    rw [hda, List.singleton_append]
    iapply (aSendOff_step I p (t - 1) (by omega) (k0_pay7 c (psum I (t - 2) (prv p))) (by
        obtain ⟨s, rfl⟩ : ∃ s, t = s + 2 := ⟨t - 2, by omega⟩
        rw [hc]; rfl) D (hD.mono (by omega)) Q) $$ [HTA HPAS HO Hm Ha]
    · isplitr; · iexact HK
      isplitl [HTA]; · iexact HTA
      isplitl [HPAS]; · iexact HPAS
      isplitl [HO]; · iexact HO
      isplitl [Hm] <;> iassumption
    iintro ⟨HTA, HPAS, HO, Ha⟩
    iapply Hk
    rw [show t + 1 - 1 = t - 1 + 1 by omega, show t + 1 - 2 = t - 2 + 1 by omega]
    isplitr [HO]
    · isplitl [HTA]; · iexact HTA
      isplitl [HPAS]; · iexact HPAS
      isplitl [HCA]; · iexact HCA
      isplitl [HPAR]; · iexact HPAR
      isplitl [HCAC]; · iexact HCAC
      isplitl [Hcr]; · iexact Hcr
      isplitl [HGA]; · iexact HGA
      isplitl [HS]; · iexact HS
      isplitl [HR]; · iexact HR
      isplitl [Hb]
      · iapply (Entails.of_eq (show fr p (ao t) = (fr p (ao (t - 1 + 1)) : sProp 𝕄) by rw [show t - 1 + 1 = t by omega]))
        iexact Hb
      iapply (Entails.of_eq (show fr p (ao (t - 1)) = (fr p (ao (t + 1)) : sProp 𝕄) by rw [← ao_next (t - 1), show t - 1 + 2 = t + 1 by omega]))
      iexact Ha
    iexact HO

/-- What is still owed before hop `t`, with `n` hops to go; at last the exit handshake. -/
def dues : ℕ → ℕ → List (Pay nD τ sig)
  | _, 0 => [(cEnd (prv p), 18, 1), (cEnd (nxt p), 18, 1)]
  | t, n + 1 => dx p t ++ (dg p t ++ (dga p t ++ (da p t ++ dues (t + 1) n)))

theorem lo_dues (t n : ℕ) (h : t + n = 16) : Lo (t + 2) (dues p t n) := by
  induction n generalizing t with
  | zero =>
    obtain rfl : t = 16 := by omega
    exact Lo.cons ⟨rfl, Nat.le_refl 18, Nat.lt_succ_self 18⟩ (Lo.cons ⟨rfl, Nat.le_refl 18, Nat.lt_succ_self 18⟩ Lo.nil)
  | succ n ih =>
    have ht : t ≤ 15 := by omega
    exact (lo_dx p t ht).append ((lo_dg p t ht).append ((lo_dga p t ht).append ((lo_da p t ht).append ((ih (t + 1) (by omega)).mono (by omega)))))

theorem hops_run (n t : ℕ) (h1 : 1 ≤ t) (h : t + n = 16) (Q : PUnit → sProp 𝕄) :
    iprop(Know I ∗ ready (nxt p) ∗ StX I p t ∗ StA I p t ∗ wts I p ∗ ow p (dues p t n))
      ⊢ iprop(((StX I p 16 ∗ StA I p 16 ∗ wts I p ∗ ow p (dues p 16 0)) -∗ Q ⟨⟩) -∗ WP p (hops p t n) Q) := by
  induction n generalizing t with
  | zero =>
    obtain rfl : t = 16 := by omega
    unfold WP hops
    rw [show (pure ⟨⟩ : PROG F PUnit) = Prog.ret ⟨⟩ from rfl, wp_ret]
    iintro ⟨-, -, HX, HA, Hw, HO⟩ Hk
    imodintro
    iapply Hk
    isplitl [HX]; · iexact HX
    isplitl [HA]; · iexact HA
    isplitl [Hw] <;> iassumption
  | succ n ih =>
    have ht : t ≤ 15 := by omega
    have hl : Lo (t + 2) (dues p (t + 1) n) := (lo_dues p (t + 1) n (by omega)).mono (by omega)
    unfold hops hop dues WP
    iintro ⟨#HK, #Hready, HX, HA, Hw, HO⟩ Hk
    rw [wp_bind, wp_bind]
    iapply (hopX_step I p t h1 ht _ ((lo_dga p t ht).append ((lo_da p t ht).append hl)) _) $$ [HX Hw HO]
    · isplitr; · iexact HK
      isplitr; · iexact Hready
      isplitl [HX]; · iexact HX
      isplitl [Hw] <;> iassumption
    iintro ⟨HX, Hw, HO⟩
    iapply (hopA_step I p t h1 ht _ rfl _ hl _) $$ [HA HO]
    · isplitr; · iexact HK
      isplitr; · iexact Hready
      isplitl [HA] <;> iassumption
    iintro ⟨HA, HO⟩
    iapply (ih (t + 1) (by omega) (by omega)) $$ [HX HA Hw HO]
    · isplitr; · iexact HK
      isplitr; · iexact Hready
      isplitl [HX]; · iexact HX
      isplitl [HA]; · iexact HA
      isplitl [Hw] <;> iassumption
    iexact Hk

end Cert.AgRs

end
-- ==== Proof.Ends.lean ====
/-
  The entry, the device's own contribution, the exit, and that every semaphore is at zero afterwards.
-/
module

public import proofs.«01_k».proof.Proof.Hop

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

variable (p : Dev nD)

/-! ## What a device starts from -/

/-- For the blocks of `x`; -/
def begX : sProp 𝕄 :=
  iprop(bigSep (Finset.Ico 0 15) (fTX p) ∗ bigSep (Finset.Ico 0 4) (fPXS p) ∗ bigSep (Finset.Ico 1 16) (fCX p) ∗ bigSep (Finset.Ico 0 4) (fPXR p)
    ∗ bigSep (Finset.Ico 0 12) (fCXC p) ∗ atPos ER (cXC p) 0 ∅ 0 ∗ bigSep (Finset.Ico 0 12) (fGX p))
/-- for the partial sums; -/
def begA : sProp 𝕄 :=
  iprop(bigSep (Finset.Ico 0 15) (fTA p) ∗ bigSep (Finset.Ico 0 2) (fPAS p) ∗ bigSep (Finset.Ico 0 15) (fCA p) ∗ bigSep (Finset.Ico 0 2) (fPAR p)
    ∗ bigSep (Finset.Ico 0 13) (fCAC p) ∗ atPos ER (cAC p) 0 ∅ 0 ∗ bigSep (Finset.Ico 0 13) (fGA p))
/-- the slots that are free to be written at once; -/
def begR : sProp 𝕄 :=
  iprop(readerAt ES (p, 1) 0 ∗ readerAt ES (p, 2) 0 ∗ readerAt ES (p, 3) 0 ∗ readerAt ES (p, 16) 0 ∗ readerAt ES (p, 17) 0)
/-- the two handshakes. -/
def begB : sProp 𝕄 :=
  iprop(dutyTok ER (cBar (prv p)) 0 0 ∗ dutyTok ER (cBar (nxt p)) 0 1 ∗ atPos ER (cBar p) 0 ∅ 0 ∗ cred (tallyAt (cBar p) 1 2))
def begE : sProp 𝕄 :=
  iprop(dutyTok ER (cEnd (prv p)) 0 0 ∗ dutyTok ER (cEnd (nxt p)) 0 1 ∗ atPos ER (cEnd p) 0 ∅ 0 ∗ cred (tallyAt (cEnd p) 18 2))

/-- The slots of the three scratch buffers. -/
def slotsX : sProp 𝕄 := iprop(fr p (xs 0) ∗ fr p (xs 1) ∗ fr p (xs 2) ∗ fr p (xs 3))
def slotsR : sProp 𝕄 := iprop(fr p (ar 0) ∗ fr p (ar 1))
def slotsO : sProp 𝕄 := iprop(fr p (ao 0) ∗ fr p (ao 1))

/-- All that is owed at the start. -/
def duesAll : List (Pay nD τ sig) := (cBar (prv p), 1, 1) :: (cBar (nxt p), 1, 1) :: dues p 0 16

/-- The staged block of `x`. -/
def xPts : sProp 𝕄 := xM.view.loc (p : Thread nD τ) ↦{fullShare} I.x p

theorem hz : (![0, 0] : Fin 2 → Nat) = fun _ => 0 := funext fun a => by fin_cases a <;> rfl

theorem wp_own (Q : Vec F S1024x1024 .bf16 → sProp 𝕄) :
    xPts I p ⊢ iprop((xPts I p -∗ Q (I.x p)) -∗ WP p (Prog.lift (.load xM r1.toLoadRect (View.loadsAt_vmem h_S1024x1024))) Q) := by
  unfold WP xPts
  simp only [Prog.lift]
  iintro H Hk
  have e := wp_load (defs := defs₀ (F := F)) (Γ := .empty) 𝒱₀ (p : Thread nD τ) none Set.univ (m := xM) (r := r1.toLoadRect) (hl := View.loadsAt_vmem h_S1024x1024)
    (k := Prog.ret) (Q := Q) (S := Finset.univ) (q := fullShare) (f := I.x p) (Finset.subset_univ _)
  iapply e $$ H
  iintro H
  rw [wp_ret, show xM.view.readAt (Elt F) r1.toLoadRect (I.x p) = I.x p from Memref.readAt_unit_zero (Elt F) cc0_stg0_0 hz _ _]
  imodintro
  iapply Hk; iexact H

theorem crSt_zero (g : GSem nD τ sig) : atPos ER g 0 ∅ 0 ⊢ (crSt I g 0 : sProp 𝕄) := by
  unfold crSt
  iintro H
  iexists ∅
  isplitr; · ipureintro; exact ⟨Finset.empty_subset _, Nat.zero_le _⟩
  isplitl [H]; · iexact H
  rw [bigSep_empty]; iempintro

theorem keySlot_xs (h : ℕ) (hh : h < 16) : (keySlot (p, h) : sProp 𝕄) = fr p (xs h) := if_pos hh

/-- A device says that its slots may be written. -/
theorem readied :
    iprop(Know I ∗ begR p ∗ fr p (xs 1) ∗ fr p (xs 2) ∗ fr p (xs 3) ∗ fr p (ar 0) ∗ fr p (ar 1)) ⊢ (|={Set.univ}=> ready p : sProp 𝕄) := by
  unfold begR ready xok aok
  iintro ⟨#HK, ⟨Hr1, Hr2, Hr3, Hr4, Hr5⟩, H1, H2, H3, H4, H5⟩
  have m : ∀ h, 1 ≤ h → h < 31 → ((p, h) : Key) ∈ keys := fun h h1 h2 => Finset.mem_product.mpr ⟨Finset.mem_univ _, Finset.mem_Ico.mpr ⟨h1, h2⟩⟩
  imod (release I (p, 1) (m 1 (by decide) (by decide))) $$ [Hr1 H1] with Hr1
  · isplitr; · iexact HK
    isplitl [Hr1]; · iexact Hr1
    iapply (Entails.of_eq (keySlot_xs (F := F) p 1 (by decide)).symm); iexact H1
  imod (release I (p, 2) (m 2 (by decide) (by decide))) $$ [Hr2 H2] with Hr2
  · isplitr; · iexact HK
    isplitl [Hr2]; · iexact Hr2
    iapply (Entails.of_eq (keySlot_xs (F := F) p 2 (by decide)).symm); iexact H2
  imod (release I (p, 3) (m 3 (by decide) (by decide))) $$ [Hr3 H3] with Hr3
  · isplitr; · iexact HK
    isplitl [Hr3]; · iexact Hr3
    iapply (Entails.of_eq (keySlot_xs (F := F) p 3 (by decide)).symm); iexact H3
  imod (release I (p, 16) (m 16 (by decide) (by decide))) $$ [Hr4 H4] with Hr4
  · isplitr; · iexact HK
    isplitl [Hr4]; · iexact Hr4
    iapply (Entails.of_eq (keySlot_ar (F := F) p 0).symm); iexact H4
  imod (release I (p, 17) (m 17 (by decide) (by decide))) $$ [Hr5 H5] with Hr5
  · isplitr; · iexact HK
    isplitl [Hr5]; · iexact Hr5
    iapply (Entails.of_eq (keySlot_ar (F := F) p 1).symm); iexact H5
  imodintro
  isplitl [Hr1]
  · isplitl [Hr1]; · iexact Hr1
    iapply (know_zero I p _ (xr_le 1)); iexact HK
  isplitl [Hr2]
  · isplitl [Hr2]; · iexact Hr2
    iapply (know_zero I p _ (xr_le 2)); iexact HK
  isplitl [Hr3]
  · isplitl [Hr3]; · iexact Hr3
    iapply (know_zero I p _ (xr_le 3)); iexact HK
  isplitl [Hr4]
  · isplitl [Hr4]; · iexact Hr4
    iapply (know_zero I p _ (ar_le 0)); iexact HK
  isplitl [Hr5]; · iexact Hr5
  iapply (know_zero I p _ (ar_le 1)); iexact HK

/-- The semaphore of hop 0, into which nothing is copied, goes to its second round. -/
theorem skip_first : iprop(Know I ∗ fPXR p 0) ⊢ (|={Set.univ}=> fPXR p 4 : sProp 𝕄) := by
  iintro ⟨#HK, H⟩
  ihave #HI := (know_cell I p (.dma (xRecv 0).sem) (xr_le 0)) $$ HK
  icases HI with ⟨%κ, #HI⟩
  ihave H := (show fPXR p 0 ⊢ iprop(atPos ER (cXR p 0) 0 ∅ 0 ∗ reached ER (cXR p 0) 0) from .rfl) $$ H
  icases H with ⟨H, -⟩
  imod (Rounds.fupd_skip ER (Rd I) (κ := κ) (g := cXR p 0) (R := 0) (m := 0) (T := ∅) (by rw [first_xr])
    (by unfold Schedule.expect Schedule.amountOf; rw [first_xr, Finset.sum_empty]) (Set.mem_univ κ)) $$ [H] with H
  · isplitr; · iexact HI
    iexact H
  imodintro
  iapply (Entails.of_eq (fPXR_next p 0))
  iexact H

theorem lo_all : Lo 2 (dues p 0 16) :=
  (lo_dx p 0 (by omega)).append ((lo_dg p 0 (by omega)).append (((lo_dga p 0 (by omega)).append ((lo_da p 0 (by omega)).append ((lo_dues p 1 15 rfl).mono (by omega))))))

theorem saidX_zero : (saidX p 0 : sProp 𝕄) = iprop(emp) := by
  unfold saidX; rw [show min 0 12 = 0 from rfl, Finset.range_zero, bigSep_empty]; rfl
theorem saidA_one : (saidA p 1 : sProp 𝕄) = iprop(emp) := by
  unfold saidA; rw [show min (1 - 2) 13 = 0 from rfl, Finset.range_zero, bigSep_empty]; rfl

/-- The entry. -/
theorem enter_step (Q : PUnit → sProp 𝕄) :
    iprop(Know I ∗ begX p ∗ begA p ∗ begR p ∗ begB p ∗ slotsX p ∗ slotsR p ∗ slotsO p ∗ xPts I p ∗ ow p (duesAll p))
      ⊢ iprop(((ready (nxt p) ∗ StX I p 1 ∗ StA I p 1 ∗ xPts I p ∗ atPos ER (cBar p) 1 ∅ 0 ∗ ow p (dues p 1 15)) -∗ Q ⟨⟩) -∗ WP p (enter p) Q) := by
  unfold begX begA begB slotsX slotsR slotsO duesAll WP enter
  iintro ⟨#HK, ⟨HTX, HPXS, HCX, HPXR, HCXC, HaC, HGX⟩, ⟨HTA, HPAS, HCA, HPAR, HCAC, HaA, HGA⟩, HR, ⟨Ht0, Ht1, HaB, HcB⟩,
    ⟨H0, H1, H2, H3⟩, ⟨H4, H5⟩, ⟨Ho0, Ho1⟩, Hx, HO⟩ Hk
  iapply (fupd_wp frame)
  imod (readied I p) $$ [HR H1 H2 H3 H4 H5] with #Hp
  · isplitr; · iexact HK
    isplitl [HR]; · iexact HR
    isplitl [H1]; · iexact H1
    isplitl [H2]; · iexact H2
    isplitl [H3]; · iexact H3
    isplitl [H4] <;> iassumption
  ihave HPXR := (Entails.of_eq (bs_take (show 0 < 4 by decide) (fPXR (F := F) p))) $$ HPXR
  icases HPXR with ⟨Hf, HPXR⟩
  imod (skip_first I p) $$ [Hf] with Hf
  · isplitr; · iexact HK
    iexact Hf
  ihave Hf := (show fPXR p 4 ⊢ iprop(atPos ER (cXR p 4) 1 ∅ 0 ∗ reached ER (cXR p 4) 1) from .rfl) $$ Hf
  icases Hf with ⟨Hf, #Hr4⟩
  imodintro
  rw [wp_bind]
  have e1 := wp_tell I p (prv p) barS.sem 0 0 1 ((cBar (nxt p), 1, 1) :: dues p 0 16) (by rw [duties_bar]; decide)
  unfold WP at e1
  iapply (e1 _) $$ [HO Ht0]
  · isplitr; · iexact HK
    isplitl [HO]; · iexact HO
    isplitl [Ht0]; · iexact Ht0
    isplitr
    · rw [payload_bar0, nxt_prv]; iexact Hp
    iapply (know_zero I (prv p) _ (code_reg_le barS.sem)); iexact HK
  iintro HO
  rw [wp_bind]
  have e2 := wp_tell I p (nxt p) barS.sem 0 1 1 (dues p 0 16) (by rw [duties_bar]; decide)
  unfold WP at e2
  iapply (e2 _) $$ [HO Ht1]
  · isplitr; · iexact HK
    isplitl [HO]; · iexact HO
    isplitl [Ht1]; · iexact Ht1
    isplitr
    · rw [payload_bar1]; iempintro
    iapply (know_zero I (nxt p) _ (code_reg_le barS.sem)); iexact HK
  iintro HO
  rw [wp_bind]
  have e3 := wp_both I p barS.sem 1 (by decide) (dues p 0 16) (lo_all p) (duties_bar I p)
  unfold WP at e3
  iapply (e3 _) $$ [HcB HO HaB]
  · isplitr; · iexact HK
    isplitl [HcB]; · iexact HcB
    isplitl [HO]; · iexact HO
    iexact HaB
  iintro ⟨HO, HaB, Hn, -⟩
  ihave #Hn := (Entails.of_eq (payload_bar0 I p 0)) $$ Hn
  rw [wp_bind]
  iapply (wp_own I p _) $$ Hx
  iintro Hx
  rw [wp_bind]
  iapply (wp_peek p xcM (r4 0) (fun _ => rfl) (View.loadsAt_vmem h_S1024x1024) _) $$ H0
  iintro %X H0
  rw [wp_bind]
  iapply (wp_put p xcM (r4 0) (fun _ => rfl) (k0_pay1 (I.x p)) _ _ _) $$ H0
  iintro H0
  rw [wp_bind]
  have e4 := xStart_step I p 0 (by omega) (dg p 0 ++ dues p 1 15)
  rw [if_pos (by decide)] at e4
  unfold WP at e4
  iapply (e4 _) $$ [HTX HPXS HO H0]
  · isplitr; · iexact HK
    isplitl [HTX]; · iexact HTX
    isplitl [HPXS]; · iexact HPXS
    isplitl [HO]; · iexact HO
    isplitr
    · unfold mayX ready
      rw [if_pos (by decide)]
      icases Hn with ⟨H, -⟩; iexact H
    iexact H0
  iintro ⟨HTX, HPXS, HO, H0⟩
  rw [wp_bind]
  have e5 := xDone_step I p 0 (by omega) (dg p 0 ++ dues p 1 15) (((lo_dg p 0 (by omega)).mono (by omega)).append ((lo_dues p 1 15 rfl).mono (by omega)))
  rw [if_pos (by decide)] at e5
  unfold WP at e5
  iapply (e5 _) $$ [HPXS HO H0]
  · isplitr; · iexact HK
    isplitl [HPXS]; · iexact HPXS
    isplitl [HO] <;> iassumption
  iintro ⟨HPXS, HO, H0⟩
  have e6 := xGive_step I p 0 (by omega) (dues p 1 15)
  rw [if_pos (by decide), saidX_zero, show (restX p 0 : sProp 𝕄) = iprop(emp) from bs_none (by decide) _] at e6
  unfold WP at e6
  iapply (e6 _) $$ [HGX HO H0]
  · isplitr; · iexact HK
    isplitl [HGX]; · iexact HGX
    isplitr; · iempintro
    isplitr; · iempintro
    isplitl [HO]; · iexact HO
    isplitr; · iexact Hr4
    iexact H0
  iintro ⟨HGX, HS, HRX, HO⟩
  iapply Hk
  isplitr; · iexact Hn
  isplitl [HTX HPXS HCX HPXR Hf HCXC HaC HGX HS HRX]
  · unfold StX
    isplitl [HTX]; · iexact HTX
    isplitl [HPXS]; · iexact HPXS
    isplitl [HCX]; · iexact HCX
    isplitl [HPXR Hf]
    · rw [bs_push (show 1 ≤ 4 by decide)]
      isplitl [Hf]
      · iapply (show iprop(atPos ER (cXR p 4) 1 ∅ 0 ∗ reached ER (cXR p 4) 1) ⊢ (fPXR p 4 : sProp 𝕄) from .rfl)
        isplitl [Hf]; · iexact Hf
        iexact Hr4
      iexact HPXR
    isplitl [HCXC]; · iexact HCXC
    isplitl [HaC]; · iapply (crSt_zero I (cXC p)); iexact HaC
    isplitl [HGX]; · iexact HGX
    isplitl [HS] <;> iassumption
  isplitl [HTA HPAS HCA HPAR HCAC HaA HGA Ho0 Ho1]
  · unfold StA
    isplitl [HTA]; · iexact HTA
    isplitl [HPAS]; · iexact HPAS
    isplitl [HCA]; · iexact HCA
    isplitl [HPAR]; · iexact HPAR
    isplitl [HCAC]; · iexact HCAC
    isplitl [HaA]; · iapply (crSt_zero I (cAC p)); iexact HaA
    isplitl [HGA]; · iexact HGA
    isplitr; · rw [saidA_one]; iempintro
    isplitr
    · rw [show (restA p 1 : sProp 𝕄) = iprop(emp) from bs_none (by decide) _]; iempintro
    isplitl [Ho0] <;> iassumption
  isplitl [Hx]; · iexact Hx
  isplitl [HaB] <;> iassumption

/-! ## The exit -/

/-- The staged result. -/
def oPts (f : Vec F S1024x1024 .f32) : sProp 𝕄 := oM.view.loc (p : Thread nD τ) ↦{fullShare} f

theorem wp_result (f w : Vec F S1024x1024 .f32) (Q : PUnit → sProp 𝕄) :
    oPts p f ⊢ iprop((oPts p w -∗ Q ⟨⟩)
      -∗ WP p (Prog.lift (.load oM r1.toLoadRect (View.loadsAt_vmem h_S1024x1024)) >>= fun _ =>
          Prog.lift (.store oM r1 w Finset.univ (View.stores_vmem_bits_univ h_S1024x1024 rfl) (.inl rfl))) Q) := by
  unfold WP oPts
  simp only [Prog.lift, bind, Prog.bind]
  iintro H Hk
  have e1 := fun (K : _ → PROG F PUnit) => wp_load (defs := defs₀ (F := F)) (Γ := .empty) 𝒱₀ (p : Thread nD τ) none Set.univ (m := oM) (r := r1.toLoadRect) (hl := View.loadsAt_vmem h_S1024x1024)
    (k := K) (Q := Q) (S := Finset.univ) (q := fullShare) (f := f) (Finset.subset_univ _)
  have e2 := wp_store (defs := defs₀ (F := F)) (Γ := .empty) 𝒱₀ (p : Thread nD τ) none Set.univ (m := oM) (r := r1) (w := w) (Mk := Finset.univ)
    (hx := View.stores_vmem_bits_univ h_S1024x1024 rfl) (hm := .inl rfl) (k := Prog.ret) (Q := Q) (S := Finset.univ) (f := f) (Finset.subset_univ _)
  iapply (e1 _) $$ H
  iintro H
  iapply e2 $$ H
  iintro H
  rw [wp_ret, show (oM.access r1 : View sig .tc _ _ _).write (Elt F) f w Finset.univ = w from Memref.write_access_unit_zero_univ (Elt F) cc0_stg3_0 hz _ f w]
  imodintro
  iapply Hk; iexact H

/-- The device's own contribution joins the last partial sum. -/
theorem leave_step (f : Vec F S1024x1024 .f32) (D : List (Pay nD τ sig)) (hD : Lo 18 D) (Q : PUnit → sProp 𝕄) :
    iprop(Know I ∗ bigSep (Finset.Ico 14 15) (fCA p) ∗ bigSep (Finset.Ico 14 16) (fPAR p) ∗ xPts I p ∗ wts I p ∗ oPts p f ∗ ow p D)
      ⊢ iprop(((bigSep (Finset.Ico 15 17) (fPAR p) ∗ fr p (ar 14) ∗ xPts I p ∗ wts I p ∗ oPts p (outV I p) ∗ ow p D) -∗ Q ⟨⟩) -∗ WP p leave Q) := by
  unfold WP leave
  iintro ⟨#HK, HCA, HPAR, Hx, Hw, Ho, HO⟩ Hk
  rw [wp_bind]
  iapply (aArrive_step I p 14 (by omega) _ hD _) $$ [HCA HPAR HO]
  · isplitr; · iexact HK
    isplitl [HCA]; · iexact HCA
    isplitl [HPAR] <;> iassumption
  iintro ⟨HCA, HPAR, HO, -, Ha⟩
  rw [wp_bind]
  iapply (wp_own I p _) $$ Hx
  iintro Hx
  rw [wp_bind]
  iapply (wp_contrib I p (ownX (I.x p)) _) $$ Hw
  iintro Hw
  rw [wp_bind]
  iapply (aLoad_step I p 14 _) $$ Ha
  iintro Ha
  iapply (wp_result p f (outV I p) _) $$ Ho
  iintro Ho
  iapply Hk
  isplitl [HPAR]; · iexact HPAR
  isplitl [Ha]; · iapply (owns_fr p (ar 14) _); iexact Ha
  isplitl [Hx]; · iexact Hx
  isplitl [Hw]; · iexact Hw
  isplitl [Ho] <;> iassumption

/-- The exit handshake. -/
theorem farewell_step (Q : PUnit → sProp 𝕄) :
    iprop(Know I ∗ begE p ∗ ow p (dues p 16 0)) ⊢ iprop(((atPos ER (cEnd p) 1 ∅ 0 ∗ ow p []) -∗ Q ⟨⟩) -∗ WP p (farewell p) Q) := by
  unfold begE WP farewell dues
  iintro ⟨#HK, ⟨Ht0, Ht1, HaB, HcB⟩, HO⟩ Hk
  rw [wp_bind]
  have e1 := wp_tell I p (prv p) endS.sem 0 0 18 [(cEnd (nxt p), 18, 1)] (by rw [duties_end]; decide)
  unfold WP at e1
  iapply (e1 _) $$ [HO Ht0]
  · isplitr; · iexact HK
    isplitl [HO]; · iexact HO
    isplitl [Ht0]; · iexact Ht0
    isplitr
    · rw [payload_end]; iempintro
    iapply (know_zero I (prv p) _ (code_reg_le endS.sem)); iexact HK
  iintro HO
  rw [wp_bind]
  have e2 := wp_tell I p (nxt p) endS.sem 0 1 18 [] (by rw [duties_end]; decide)
  unfold WP at e2
  iapply (e2 _) $$ [HO Ht1]
  · isplitr; · iexact HK
    isplitl [HO]; · iexact HO
    isplitl [Ht1]; · iexact Ht1
    isplitr
    · rw [payload_end]; iempintro
    iapply (know_zero I (nxt p) _ (code_reg_le endS.sem)); iexact HK
  iintro HO
  have e3 := wp_both I p endS.sem 18 (by decide) [] Lo.nil (duties_end I p)
  unfold WP at e3
  iapply (e3 _) $$ [HcB HO HaB]
  · isplitr; · iexact HK
    isplitl [HcB]; · iexact HcB
    isplitl [HO]; · iexact HO
    iexact HaB
  iintro ⟨HO, HaB, -⟩
  iapply Hk
  isplitl [HaB] <;> iassumption

end Cert.AgRs

end
-- ==== Proof.Body.lean ====
/-
  The whole body on one device: from its start to its result, its buffers free again and every semaphore at zero.
-/
module

public import proofs.«01_k».proof.Proof.Ends

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

variable (p : Dev nD)

theorem xs_add (k t : ℕ) : xs (t + 4 * k) = xs t := by
  induction k with
  | zero => rfl
  | succ k ih => exact (xs_next (t + 4 * k)).trans ih
theorem ar_add (k t : ℕ) : ar (t + 2 * k) = ar t := by
  induction k with
  | zero => rfl
  | succ k ih => exact (ar_next (t + 2 * k)).trans ih
theorem ao_add (k t : ℕ) : ao (t + 2 * k) = ao t := by
  induction k with
  | zero => rfl
  | succ k ih => exact (ao_next (t + 2 * k)).trans ih
theorem cXS_add (k t : ℕ) : cXS p (t + 4 * k) = cXS p t := by
  induction k with
  | zero => rfl
  | succ k ih => exact (cXS_next p (t + 4 * k)).trans ih
theorem cXR_add (k t : ℕ) : cXR p (t + 4 * k) = cXR p t := by
  induction k with
  | zero => rfl
  | succ k ih => exact (cXR_next p (t + 4 * k)).trans ih
theorem cAS_add (k t : ℕ) : cAS p (t + 2 * k) = cAS p t := by
  induction k with
  | zero => rfl
  | succ k ih => exact (cAS_next p (t + 2 * k)).trans ih
theorem cAR_add (k t : ℕ) : cAR p (t + 2 * k) = cAR p t := by
  induction k with
  | zero => rfl
  | succ k ih => exact (cAR_next p (t + 2 * k)).trans ih

/-! ## The sixteen semaphores by name -/

theorem code_inj : Function.Injective code := by
  rintro (a | a) (b | b) h
  · exact congrArg SemLoc.reg (Fin.ext (by change 16 + a.val = 16 + b.val at h; omega))
  · have := b.isLt; change 16 + a.val = b.val at h; exact absurd h (by have : b.val < 16 := b.isLt; omega)
  · change a.val = 16 + b.val at h; exact absurd h (by have : a.val < 16 := a.isLt; omega)
  · exact congrArg SemLoc.dma (Fin.ext h)

theorem code_kc (i : Fin 16) : code (kc i) = 4 + i.val := by
  unfold kc; split
  · rfl
  · next h => show 16 + (i.val - 12) = 4 + i.val; omega

theorem kc_eq (i : Fin 16) (sm : SemLoc sig) (h : code sm = 4 + i.val) : kc i = sm := code_inj ((code_kc i).trans h.symm)

/-- A family over the sixteen semaphores, written out. -/
theorem sems16 (Φ : SemLoc sig → sProp 𝕄) :
    (bigSep Finset.univ fun i : Fin 16 => Φ (kc i)) =
      iprop(Φ (.dma (xSend 0).sem) ∗ Φ (.dma (xSend 1).sem) ∗ Φ (.dma (xSend 2).sem) ∗ Φ (.dma (xSend 3).sem)
        ∗ Φ (.dma (xRecv 0).sem) ∗ Φ (.dma (xRecv 1).sem) ∗ Φ (.dma (xRecv 2).sem) ∗ Φ (.dma (xRecv 3).sem)
        ∗ Φ (.dma (aSend 0).sem) ∗ Φ (.dma (aSend 1).sem) ∗ Φ (.dma (aRecv 0).sem) ∗ Φ (.dma (aRecv 1).sem)
        ∗ Φ (.reg xCred.sem) ∗ Φ (.reg aCred.sem) ∗ Φ (.reg barS.sem) ∗ Φ (.reg endS.sem)) := by
  rw [bigSep_univ_eq_bigSepL [0, 1, 2, 3, 4, 5, 6, 7, 8, 9, 10, 11, 12, 13, 14, 15] (by decide) (by decide) (fun i : Fin 16 => Φ (kc i)),
    ← kc_eq 0 _ (code_xSend 0), ← kc_eq 1 _ (code_xSend 1), ← kc_eq 2 _ (code_xSend 2), ← kc_eq 3 _ (code_xSend 3),
    ← kc_eq 4 _ (code_xRecv 0), ← kc_eq 5 _ (code_xRecv 1), ← kc_eq 6 _ (code_xRecv 2), ← kc_eq 7 _ (code_xRecv 3),
    ← kc_eq 8 _ (code_aSend 0), ← kc_eq 9 _ (code_aSend 1), ← kc_eq 10 _ (code_aRecv 0), ← kc_eq 11 _ (code_aRecv 1),
    ← kc_eq 12 _ code_xCred, ← kc_eq 13 _ code_aCred, ← kc_eq 14 _ code_bar, ← kc_eq 15 _ code_end]
  rfl

/-- Every semaphore of the device is at zero. -/
def closed : sProp 𝕄 := bigSep Finset.univ fun i : Fin 16 => semVal ((p : Thread nD τ), kc i) 0

theorem bs_four (a : ℕ) (Φ : ℕ → sProp 𝕄) : bigSep (Finset.Ico a (a + 4)) Φ = iprop(Φ a ∗ Φ (a + 1) ∗ Φ (a + 2) ∗ Φ (a + 3)) := by
  rw [bs_take (by omega), bs_take (by omega), bs_take (by omega), bs_take (by omega), bs_none (by omega)]
  simp only [Nat.add_assoc, Nat.reduceAdd]
  rw [show ∀ P : sProp 𝕄, iprop(P ∗ emp) = P from fun P => equiv_iff.mp sep_emp]
theorem bs_pair (a : ℕ) (Φ : ℕ → sProp 𝕄) : bigSep (Finset.Ico a (a + 2)) Φ = iprop(Φ a ∗ Φ (a + 1)) := by
  rw [bs_take (by omega), bs_take (by omega), bs_none (by omega)]
  rw [show ∀ P : sProp 𝕄, iprop(P ∗ emp) = P from fun P => equiv_iff.mp sep_emp]

theorem close_xs (h : ℕ) (hh : 15 ≤ h) : iprop(Know I ∗ fPXS p h) ⊢ (|={Set.univ}=> semVal (cXS p h) 0 : sProp 𝕄) := by
  unfold fPXS
  iintro ⟨HK, Ha, -⟩
  iapply (copy_close I p (xSend h).sem (xs_le h) (h / 4) (later_xs I p h hh))
  isplitl [HK] <;> iassumption
theorem close_xr (h : ℕ) (hh : 16 ≤ h) : iprop(Know I ∗ fPXR p h) ⊢ (|={Set.univ}=> semVal (cXR p h) 0 : sProp 𝕄) := by
  unfold fPXR
  iintro ⟨HK, Ha, -⟩
  iapply (copy_close I p (xRecv h).sem (xr_le h) (h / 4) (later_xr I p h hh))
  isplitl [HK] <;> iassumption
theorem close_as (s : ℕ) (hh : 15 ≤ s) : iprop(Know I ∗ fPAS p s) ⊢ (|={Set.univ}=> semVal (cAS p s) 0 : sProp 𝕄) := by
  unfold fPAS
  iintro ⟨HK, Ha, -⟩
  iapply (copy_close I p (aSend s).sem (as_le s) (s / 2) (later_as I p s hh))
  isplitl [HK] <;> iassumption
theorem close_ar (s : ℕ) (hh : 15 ≤ s) : iprop(Know I ∗ fPAR p s) ⊢ (|={Set.univ}=> semVal (cAR p s) 0 : sProp 𝕄) := by
  unfold fPAR
  iintro ⟨HK, Ha, -⟩
  iapply (copy_close I p (aRecv s).sem (ar_le s) (s / 2) (later_ar I p s hh))
  isplitl [HK] <;> iassumption

theorem close_all :
    iprop(Know I ∗ bigSep (Finset.Ico 15 19) (fPXS p) ∗ bigSep (Finset.Ico 16 20) (fPXR p) ∗ bigSep (Finset.Ico 15 17) (fPAS p) ∗ bigSep (Finset.Ico 15 17) (fPAR p)
        ∗ crSt I (cXC p) 12 ∗ crSt I (cAC p) 13 ∗ atPos ER (cBar p) 1 ∅ 0 ∗ atPos ER (cEnd p) 1 ∅ 0)
      ⊢ (|={Set.univ}=> closed p : sProp 𝕄) := by
  rw [bs_four 15, bs_four 16, bs_pair 15, bs_pair 15]
  iintro ⟨#HK, ⟨S3, S0, S1, S2⟩, ⟨R0, R1, R2, R3⟩, ⟨A1, A0⟩, ⟨B1, B0⟩, HX, HA, HB, HE⟩
  imod (close_xs I p 15 (by omega)) $$ [S3] with S3
  · isplitr; · iexact HK
    iexact S3
  imod (close_xs I p 16 (by omega)) $$ [S0] with S0
  · isplitr; · iexact HK
    iexact S0
  imod (close_xs I p 17 (by omega)) $$ [S1] with S1
  · isplitr; · iexact HK
    iexact S1
  imod (close_xs I p 18 (by omega)) $$ [S2] with S2
  · isplitr; · iexact HK
    iexact S2
  imod (close_xr I p 16 (by omega)) $$ [R0] with R0
  · isplitr; · iexact HK
    iexact R0
  imod (close_xr I p 17 (by omega)) $$ [R1] with R1
  · isplitr; · iexact HK
    iexact R1
  imod (close_xr I p 18 (by omega)) $$ [R2] with R2
  · isplitr; · iexact HK
    iexact R2
  imod (close_xr I p 19 (by omega)) $$ [R3] with R3
  · isplitr; · iexact HK
    iexact R3
  imod (close_as I p 15 (by omega)) $$ [A1] with A1
  · isplitr; · iexact HK
    iexact A1
  imod (close_as I p 16 (by omega)) $$ [A0] with A0
  · isplitr; · iexact HK
    iexact A0
  imod (close_ar I p 15 (by omega)) $$ [B1] with B1
  · isplitr; · iexact HK
    iexact B1
  imod (close_ar I p 16 (by omega)) $$ [B0] with B0
  · isplitr; · iexact HK
    iexact B0
  imod (credit_close I p xCred.sem 12 (fun r hr => later_reg I p _ r hr) (duties_xc I p)) $$ [HX] with HX
  · isplitr; · iexact HK
    iexact HX
  imod (credit_close I p aCred.sem 13 (fun r hr => later_reg I p _ r hr) (duties_ac I p)) $$ [HA] with HA
  · isplitr; · iexact HK
    iexact HA
  imod (shake_close I p barS.sem (fun r hr => later_reg I p _ r hr)) $$ [HB] with HB
  · isplitr; · iexact HK
    iexact HB
  imod (shake_close I p endS.sem (fun r hr => later_reg I p _ r hr)) $$ [HE] with HE
  · isplitr; · iexact HK
    iexact HE
  imodintro
  unfold closed
  rw [sems16 fun sm => semVal ((p : Thread nD τ), sm) 0]
  isplitl [S0]; · iapply (Entails.of_eq (congrArg (fun g => (semVal g 0 : sProp 𝕄)) (cXS_add p 4 0))); iexact S0
  isplitl [S1]; · iapply (Entails.of_eq (congrArg (fun g => (semVal g 0 : sProp 𝕄)) (cXS_add p 4 1))); iexact S1
  isplitl [S2]; · iapply (Entails.of_eq (congrArg (fun g => (semVal g 0 : sProp 𝕄)) (cXS_add p 4 2))); iexact S2
  isplitl [S3]; · iapply (Entails.of_eq (congrArg (fun g => (semVal g 0 : sProp 𝕄)) (cXS_add p 3 3))); iexact S3
  isplitl [R0]; · iapply (Entails.of_eq (congrArg (fun g => (semVal g 0 : sProp 𝕄)) (cXR_add p 4 0))); iexact R0
  isplitl [R1]; · iapply (Entails.of_eq (congrArg (fun g => (semVal g 0 : sProp 𝕄)) (cXR_add p 4 1))); iexact R1
  isplitl [R2]; · iapply (Entails.of_eq (congrArg (fun g => (semVal g 0 : sProp 𝕄)) (cXR_add p 4 2))); iexact R2
  isplitl [R3]; · iapply (Entails.of_eq (congrArg (fun g => (semVal g 0 : sProp 𝕄)) (cXR_add p 4 3))); iexact R3
  isplitl [A0]; · iapply (Entails.of_eq (congrArg (fun g => (semVal g 0 : sProp 𝕄)) (cAS_add p 8 0))); iexact A0
  isplitl [A1]; · iapply (Entails.of_eq (congrArg (fun g => (semVal g 0 : sProp 𝕄)) (cAS_add p 7 1))); iexact A1
  isplitl [B0]; · iapply (Entails.of_eq (congrArg (fun g => (semVal g 0 : sProp 𝕄)) (cAR_add p 8 0))); iexact B0
  isplitl [B1]; · iapply (Entails.of_eq (congrArg (fun g => (semVal g 0 : sProp 𝕄)) (cAR_add p 7 1))); iexact B1
  isplitl [HX]; · iexact HX
  isplitl [HA]; · iexact HA
  isplitl [HB] <;> iassumption

/-- All the ghost resources a device starts from. -/
def beg : sProp 𝕄 := iprop(begX p ∗ begA p ∗ begR p ∗ begB p ∗ begE p)

def slots : sProp 𝕄 := iprop(slotsX p ∗ slotsR p ∗ slotsO p)

theorem body_run (f : Vec F S1024x1024 .f32) (Q : PUnit → sProp 𝕄) :
    iprop(Know I ∗ beg p ∗ slots p ∗ xPts I p ∗ wts I p ∗ oPts p f ∗ ow p (duesAll p))
      ⊢ iprop(((slots p ∗ closed p ∗ xPts I p ∗ wts I p ∗ oPts p (outV I p) ∗ ow p []) -∗ Q ⟨⟩) -∗ WP p bodyP Q) := by
  unfold beg slots WP bodyP
  iintro ⟨#HK, ⟨HbX, HbA, HbR, HbB, HbE⟩, ⟨HsX, HsR, HsO⟩, Hx, Hw, Ho, HO⟩ Hk
  rw [wp_bind]
  simp only [Prog.lift]
  rw [wp_deviceId, wp_ret]; imodintro
  rw [wp_bind]
  iapply (enter_step I p _) $$ [HbX HbA HbR HbB HsX HsR HsO Hx HO]
  · isplitr; · iexact HK
    isplitl [HbX]; · iexact HbX
    isplitl [HbA]; · iexact HbA
    isplitl [HbR]; · iexact HbR
    isplitl [HbB]; · iexact HbB
    isplitl [HsX]; · iexact HsX
    isplitl [HsR]; · iexact HsR
    isplitl [HsO]; · iexact HsO
    isplitl [Hx] <;> iassumption
  iintro ⟨#Hn, HX, HA, Hx, HB, HO⟩
  rw [wp_bind]
  iapply (hops_run I p 15 1 (by omega) (by omega) _) $$ [HX HA Hw HO]
  · isplitr; · iexact HK
    isplitr; · iexact Hn
    isplitl [HX]; · iexact HX
    isplitl [HA]; · iexact HA
    isplitl [Hw] <;> iassumption
  iintro ⟨HX, HA, Hw, HO⟩
  unfold StX StA
  icases HX with ⟨-, HPXS, -, HPXR, -, HcX, -, -, HrX⟩
  icases HA with ⟨-, HPAS, HCA, HPAR, -, HcA, -, -, HrA, Ho1, Ho0⟩
  rw [wp_bind]
  iapply (leave_step I p f _ (lo_dues p 16 0 rfl) _) $$ [HCA HPAR Hx Hw Ho HO]
  · isplitr; · iexact HK
    isplitl [HCA]; · iexact HCA
    isplitl [HPAR]; · iexact HPAR
    isplitl [Hx]; · iexact Hx
    isplitl [Hw]; · iexact Hw
    isplitl [Ho] <;> iassumption
  iintro ⟨HPAR, Hr14, Hx, Hw, Ho, HO⟩
  iapply (wp_fupd frame)
  iapply (farewell_step I p _) $$ [HbE HO]
  · isplitr; · iexact HK
    isplitl [HbE] <;> iassumption
  iintro ⟨HE, HO⟩
  imod (close_all I p) $$ [HPXS HPXR HPAS HPAR HcX HcA HB HE] with Hcl
  · isplitr; · iexact HK
    isplitl [HPXS]; · iexact HPXS
    isplitl [HPXR]; · iexact HPXR
    isplitl [HPAS]; · iexact HPAS
    isplitl [HPAR]; · iexact HPAR
    isplitl [HcX]; · iexact HcX
    isplitl [HcA]; · iexact HcA
    isplitl [HB] <;> iassumption
  imodintro
  iapply Hk
  ihave HrX := (show restX p 16 ⊢ bigSep (Finset.Ico 12 (12 + 4)) (fun h => (fr p (xs h) : sProp 𝕄)) from .rfl) $$ HrX
  ihave HrX := (Entails.of_eq (bs_four 12 (fun h => (fr p (xs h) : sProp 𝕄)))) $$ HrX
  icases HrX with ⟨X0, X1, X2, X3⟩
  ihave HrA := (show restA p 16 ⊢ bigSep (Finset.Ico 13 14) (fun s => (fr p (ar s) : sProp 𝕄)) from .rfl) $$ HrA
  ihave HrA := (Entails.of_eq ((bs_take (show 13 < 14 by decide) (fun s => (fr p (ar s) : sProp 𝕄))))) $$ HrA
  icases HrA with ⟨R1, -⟩
  isplitl [X0 X1 X2 X3 R1 Hr14 Ho1 Ho0]
  · unfold slotsX slotsR slotsO
    isplitl [X0 X1 X2 X3]
    · isplitl [X0]; · iapply (Entails.of_eq (congrArg (fun M => (fr p M : sProp 𝕄)) (xs_add 3 0))); iexact X0
      isplitl [X1]; · iapply (Entails.of_eq (congrArg (fun M => (fr p M : sProp 𝕄)) (xs_add 3 1))); iexact X1
      isplitl [X2]; · iapply (Entails.of_eq (congrArg (fun M => (fr p M : sProp 𝕄)) (xs_add 3 2))); iexact X2
      iapply (Entails.of_eq (congrArg (fun M => (fr p M : sProp 𝕄)) (xs_add 3 3))); iexact X3
    isplitl [R1 Hr14]
    · isplitl [Hr14]; · iapply (Entails.of_eq (congrArg (fun M => (fr p M : sProp 𝕄)) (ar_add 7 0))); iexact Hr14
      iapply (Entails.of_eq (congrArg (fun M => (fr p M : sProp 𝕄)) (ar_add 6 1))); iexact R1
    isplitl [Ho0]; · iapply (Entails.of_eq (congrArg (fun M => (fr p M : sProp 𝕄)) (ao_add 8 0))); iexact Ho0
    iapply (Entails.of_eq (congrArg (fun M => (fr p M : sProp 𝕄)) (ao_add 7 1))); iexact Ho1
  isplitl [Hcl]; · iexact Hcl
  isplitl [Hx]; · iexact Hx
  isplitl [Hw]; · iexact Hw
  isplitl [Ho] <;> iassumption

end Cert.AgRs

end
-- ==== Proof.Credit.lean ====
/-
  The credit of the launch: what all devices owe, sorted by the semaphores it is owed to, is what every device waits for.
-/
module

public import proofs.«01_k».proof.Proof.Body

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

variable (p : Dev nD)

local notation "CT" => CellTallies nD τ sig ℕ

/-- The ring as a permutation of the devices. -/
def ringE : Dev nD ≃ Dev nD := ⟨nxt, prv, prv_nxt, nxt_prv⟩

/-- What one turn of the ring leaves owed. -/
def turn (t : ℕ) : CT := tallyL (dx p t) + (tallyL (dg p t) + (tallyL (dga p t) + tallyL (da p t)))

theorem sum_take {A : Type} [AddCommMonoid A] {a n : ℕ} (h : a < n) (f : ℕ → A) : (∑ i ∈ Finset.Ico a n, f i) = f a + ∑ i ∈ Finset.Ico (a + 1) n, f i := by
  rw [show Finset.Ico a n = insert a (Finset.Ico (a + 1) n) from by ext x; simp; omega]
  exact Finset.sum_insert (by simp)

theorem Ico_shift (a b c : ℕ) : Finset.Ico (a + c) (b + c) = (Finset.Ico a b).map ⟨fun i => i + c, fun _ _ h => Nat.add_right_cancel h⟩ := by
  ext x
  rw [Finset.mem_map, Finset.mem_Ico]
  constructor
  · rintro ⟨h1, h2⟩
    exact ⟨x - c, Finset.mem_Ico.mpr ⟨by omega, by omega⟩, show x - c + c = x by omega⟩
  · rintro ⟨i, hi, rfl⟩
    have := Finset.mem_Ico.mp hi
    exact ⟨show a + c ≤ i + c by omega, show i + c < b + c by omega⟩

theorem sum_shift {A : Type} [AddCommMonoid A] (f : ℕ → A) (a b c : ℕ) : (∑ i ∈ Finset.Ico (a + c) (b + c), f i) = ∑ i ∈ Finset.Ico a b, f (i + c) := by
  rw [Ico_shift]; exact Finset.sum_map _ _ _

theorem reorder {A : Type} [AddCommMonoid A] (a b e f x c y d : A) :
    a + (b + (x + (c + (d + y)) + (e + f))) = a + (b + (e + (f + (x + (c + (y + d)))))) := by
  rw [add_comm d y, add_comm (x + (c + (y + d))), add_assoc]

theorem reorder' {A : Type} [AddCommMonoid A] (a b e f r : A) : a + (b + (e + (f + r))) = a + b + (e + f + r) := by
  rw [add_assoc, add_assoc]

theorem tallyL_one (x : Pay nD τ sig) : tallyL [x] = x.tally := add_zero _

theorem tallyL_dues (t n : ℕ) :
    tallyL (dues p t n) = (∑ i ∈ Finset.Ico t (t + n), turn p i) + (tallyAt (cEnd (prv p)) 18 1 + tallyAt (cEnd (nxt p)) 18 1) := by
  induction n generalizing t with
  | zero =>
    rw [Nat.add_zero, Finset.Ico_self, Finset.sum_empty, zero_add]
    show tallyAt (cEnd (prv p)) 18 1 + (tallyAt (cEnd (nxt p)) 18 1 + 0) = _
    rw [add_zero]
  | succ n ih =>
    rw [sum_take (show t < t + (n + 1) by omega), show t + (n + 1) = t + 1 + n by omega]
    show tallyL (dx p t ++ (dg p t ++ (dga p t ++ (da p t ++ dues p (t + 1) n)))) = _
    simp only [TalkSites.tallyL_append, ih (t + 1), turn, add_assoc]

/-- A payment made at the turns from `a` to `b` only. -/
theorem sum_if (P : ℕ → Prop) [DecidablePred P] (a b : ℕ) (hb : b ≤ 16) (hP : ∀ i, i < 16 → Iff (P i) (a ≤ i ∧ i < b)) (x : ℕ → Pay nD τ sig) :
    (∑ i ∈ Finset.Ico 0 16, tallyL (if P i then [x i] else [])) = ∑ i ∈ Finset.Ico a b, (x i).tally := by
  have e : ∀ i, tallyL (if P i then [x i] else []) = if P i then (x i).tally else 0 := fun i => by
    split
    · exact tallyL_one _
    · rfl
  simp only [e]
  rw [← Finset.sum_filter]
  refine Finset.sum_congr (Finset.ext fun i => ?_) fun _ _ => rfl
  rw [Finset.mem_filter, Finset.mem_Ico, Finset.mem_Ico]
  constructor
  · rintro ⟨⟨-, h⟩, hi⟩; exact (hP i h).mp hi
  · rintro ⟨h1, h2⟩; exact ⟨⟨Nat.zero_le _, by omega⟩, (hP i (by omega)).mpr ⟨h1, h2⟩⟩

def oX (d : Dev nD) : CT := ∑ h ∈ Finset.Ico 1 16, tallyAt (cXR d h) (h + 1) NB
def oXC (d : Dev nD) : CT := ∑ i ∈ Finset.Ico 0 12, tallyAt (cXC d) (i + 2) 1
def oA (d : Dev nD) : CT := ∑ s ∈ Finset.Ico 0 15, tallyAt (cAR d s) (s + 3) NB
def oAC (d : Dev nD) : CT := ∑ j ∈ Finset.Ico 0 13, tallyAt (cAC d) (j + 4) 1

theorem sum_dx : (∑ i ∈ Finset.Ico 0 16, tallyL (dx p i)) = oX (nxt p) := by
  unfold dx oX
  rw [sum_if (fun t => t ≤ 14) 0 15 (by decide) (fun i hi => by omega),
    sum_shift (fun h => (tallyAt (cXR (nxt p) h) (h + 1) NB : CT)) 0 15 1]
theorem sum_dg : (∑ i ∈ Finset.Ico 0 16, tallyL (dg p i)) = oXC (prv p) := by
  unfold dg oXC
  rw [sum_if (fun t => t ≤ 11) 0 12 (by decide) (fun i hi => by omega)]
theorem sum_dga : (∑ i ∈ Finset.Ico 0 16, tallyL (dga p i)) = oAC (prv p) := by
  unfold dga oAC
  rw [sum_if (fun t => 2 ≤ t ∧ t ≤ 14) 2 15 (by decide) (fun i hi => by omega)]
  have e := sum_shift (fun t => (tallyAt (cAC (prv p)) (t + 2) 1 : CT)) 0 13 2
  refine Eq.trans (Eq.trans ?_ e) (Finset.sum_congr rfl fun j _ => ?_)
  · rfl
  · show tallyAt (cAC (prv p)) (j + 2 + 2) 1 = _
    rw [Nat.add_assoc]
theorem sum_da : (∑ i ∈ Finset.Ico 0 16, tallyL (da p i)) = oA (nxt p) := by
  unfold da oA
  rw [sum_if (fun t => 1 ≤ t ∧ t ≤ 15) 1 16 (by decide) (fun i hi => by omega)]
  exact (sum_shift (fun t => (tallyAt (cAR (nxt p) (t - 1)) (t + 2) NB : CT)) 0 15 1).symm

/-- What is owed to a device's own semaphores. -/
def owedTo (d : Dev nD) : CT :=
  tallyAt (cBar d) 1 2 + (tallyAt (cEnd d) 18 2 + (oX d + (oXC d + (oA d + oAC d))))

theorem sum_turn : (∑ i ∈ Finset.Ico 0 16, turn p i) = oX (nxt p) + (oXC (prv p) + (oAC (prv p) + oA (nxt p))) := by
  unfold turn
  rw [Finset.sum_add_distrib, Finset.sum_add_distrib, Finset.sum_add_distrib, sum_dx, sum_dg, sum_dga, sum_da]

theorem tallyL_all :
    tallyL (duesAll p) = tallyAt (cBar (prv p)) 1 1 + (tallyAt (cBar (nxt p)) 1 1 + (tallyAt (cEnd (prv p)) 18 1 + (tallyAt (cEnd (nxt p)) 18 1
      + (oX (nxt p) + (oXC (prv p) + (oA (nxt p) + oAC (prv p))))))) := by
  show tallyAt (cBar (prv p)) 1 1 + (tallyAt (cBar (nxt p)) 1 1 + tallyL (dues p 0 16)) = _
  rw [(show tallyL (dues p 0 16) = (∑ i ∈ Finset.Ico 0 16, turn p i) + (tallyAt (cEnd (prv p)) 18 1 + tallyAt (cEnd (nxt p)) 18 1) from tallyL_dues p 0 16), sum_turn]
  exact reorder _ _ _ _ _ _ _ _

theorem around_nxt (f : Dev nD → CT) : (∑ d, f (nxt d)) = ∑ d, f d := Equiv.sum_comp ringE f
theorem around_prv (f : Dev nD → CT) : (∑ d, f (prv d)) = ∑ d, f d := Equiv.sum_comp ringE.symm f

theorem sum_owed : (∑ d, tallyL (duesAll d)) = ∑ d, owedTo d := by
  simp only [tallyL_all, owedTo, Finset.sum_add_distrib]
  rw [around_prv fun d => tallyAt (cBar d) 1 1, around_nxt fun d => tallyAt (cBar d) 1 1, around_prv fun d => tallyAt (cEnd d) 18 1,
    around_nxt fun d => tallyAt (cEnd d) 18 1, around_nxt oX, around_prv oXC, around_nxt oA, around_prv oAC]
  rw [reorder', ← Finset.sum_add_distrib, ← Finset.sum_add_distrib]
  simp only [tallyAt_add]

theorem at_own (d : Dev nD) (g : GSem nD τ sig) (h : owedTo d g ≠ 0) : g.1 = (d : Thread nD τ) := by
  by_contra hg
  refine h ?_
  have z : ∀ (sm : SemLoc sig) (i k : ℕ), (tallyAt ((d : Thread nD τ), sm) i k : CT) g = 0 := fun sm i k =>
    tallyAt_ne_cell (fun e => hg (congrArg Prod.fst e)) i k
  unfold owedTo oX oXC oA oAC
  simp only [Pi.add_apply, Finset.sum_apply, z, Finset.sum_const_zero, add_zero]

theorem cred_both (a b : CT) : (cred (a + b) : sProp 𝕄) = iprop(cred a ∗ cred b) := equiv_iff.mp ⟨(cred_add a b).1, (cred_add a b).2⟩

theorem cred_Ico (f : ℕ → CT) (s : Finset ℕ) : (cred (∑ i ∈ s, f i) : sProp 𝕄) = bigSep s fun i => cred (f i) := by
  induction s using Finset.induction_on with
  | empty => rw [Finset.sum_empty, bigSep_empty]; exact cred_zero
  | insert i s hi ih => rw [Finset.sum_insert hi, bs_ins hi, cred_both, ih]

/-- A device's credit at the launch. -/
theorem launch_credit :
    (Pipeline.launchCred (fun d => tallyL (duesAll d)) p : sProp 𝕄)
      = iprop(cred (tallyAt (cBar p) 1 2) ∗ cred (tallyAt (cEnd p) 18 2) ∗ bigSep (Finset.Ico 1 16) (fCX p) ∗ bigSep (Finset.Ico 0 12) (fCXC p)
        ∗ bigSep (Finset.Ico 0 15) (fCA p) ∗ bigSep (Finset.Ico 0 13) (fCAC p)) := by
  rw [Pipeline.launchCred_of_sum _ owedTo sum_owed at_own p]
  unfold owedTo oX oXC oA oAC
  rw [cred_both, cred_both, cred_both, cred_both, cred_both, cred_Ico, cred_Ico, cred_Ico, cred_Ico]
  rfl

end Cert.AgRs

end
-- ==== Proof.Deal.lean ====
/-
  The launch's ghost resources: minted semaphore by semaphore and slot by slot, they are dealt around the ring, every token to the
  device that pays or writes with it.
-/
module

public import proofs.«01_k».proof.Proof.Credit

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

variable (p : Dev nD)

/-! ## Families -/

theorem bs_prod {A B : Type} [DecidableEq A] [DecidableEq B] (s : Finset A) (t : Finset B) (Φ : A × B → sProp 𝕄) :
    bigSep (s ×ˢ t) Φ = bigSep s fun a => bigSep t fun b => Φ (a, b) := by
  induction s using Finset.induction_on with
  | empty => rw [Finset.empty_product, bigSep_empty, bigSep_empty]
  | insert a s ha ih =>
    rw [bs_ins ha, Finset.insert_eq, Finset.union_product,
      bigSep_union (Finset.disjoint_product.mpr (.inl (Finset.disjoint_singleton_left.mpr ha))), ih, Finset.singleton_product, bigSep_map]
    rfl

theorem bs_shift (a b c : ℕ) (Φ : ℕ → sProp 𝕄) : bigSep (Finset.Ico (a + c) (b + c)) Φ = bigSep (Finset.Ico a b) fun i => Φ (i + c) := by
  rw [Ico_shift, bigSep_map]; rfl

theorem bs_part {a b a' b' : ℕ} (ha : a' ≤ a) (hb : b ≤ b') (Φ : ℕ → sProp 𝕄) : bigSep (Finset.Ico a' b') Φ ⊢ bigSep (Finset.Ico a b) Φ :=
  bigSep_subset (Finset.Ico_subset_Ico ha hb)

theorem bs_nxt (Φ : Dev nD → sProp 𝕄) : bigSep Finset.univ Φ = bigSep Finset.univ fun d => Φ (nxt d) := bigSep_univ_equiv ringE Φ
theorem bs_prv (Φ : Dev nD → sProp 𝕄) : bigSep Finset.univ Φ = bigSep Finset.univ fun d => Φ (prv d) := bigSep_univ_equiv ringE.symm Φ

/-! ## Cells and tokens -/

def kcell (x : Dev nD × Fin 16) : GSem nD τ sig := ((x.1 : Thread nD τ), kc x.2)

theorem kcell_inj : Function.Injective kcell := by
  rintro ⟨d, i⟩ ⟨d', i'⟩ h
  have h1 : d = d' := congrArg (fun g : GSem nD τ sig => g.1.1) h
  have h2 : 4 + i.val = 4 + i'.val := (code_kc i).symm.trans ((congrArg (fun g : GSem nD τ sig => code g.2) h).trans (code_kc i'))
  exact Prod.ext h1 (Fin.ext (Nat.add_left_cancel h2))

def cellsK : Finset (GSem nD τ sig) := Finset.univ.map ⟨kcell, kcell_inj⟩

/-- The tokens of device `d`'s semaphores, family by family. -/
def tokOf : Dev nD × Fin 8 × ℕ → GSem nD τ sig × ℕ × ℕ
  | (d, 0, j) => (cXS d j, j / 4, 0)
  | (d, 1, j) => (cXR d j, j / 4, 0)
  | (d, 2, j) => (cAS d j, j / 2, 0)
  | (d, 3, j) => (cAR d j, j / 2, 0)
  | (d, 4, j) => (cXC d, 0, j)
  | (d, 5, j) => (cAC d, 0, j)
  | (d, 6, j) => (cBar d, 0, j)
  | (d, 7, j) => (cEnd d, 0, j)

/-- A token's family and place in it, read off its semaphore's number, its round and its duty. -/
def famOf (c r n : ℕ) : ℕ × ℕ :=
  if c < 8 then (0, 4 * r + c - 4) else if c < 12 then (1, 4 * r + c - 8) else if c < 14 then (2, 2 * r + c - 12)
  else if c < 16 then (3, 2 * r + c - 14) else (c - 12, n)

theorem famOf_tok : ∀ (k : Fin 8) (d : Dev nD) (j : ℕ),
    famOf (code (tokOf (d, k, j)).1.2) (tokOf (d, k, j)).2.1 (tokOf (d, k, j)).2.2 = (k.val, j)
  | 0, d, j => by
    show famOf (code (.dma (xSend j).sem)) (j / 4) 0 = (0, j)
    rw [code_xSend]; unfold famOf; rw [if_pos (by omega)]; exact Prod.ext rfl (show 4 * (j / 4) + (4 + j % 4) - 4 = j by omega)
  | 1, d, j => by
    show famOf (code (.dma (xRecv j).sem)) (j / 4) 0 = (1, j)
    rw [code_xRecv]; unfold famOf; rw [if_neg (by omega), if_pos (by omega)]; exact Prod.ext rfl (show 4 * (j / 4) + (8 + j % 4) - 8 = j by omega)
  | 2, d, j => by
    show famOf (code (.dma (aSend j).sem)) (j / 2) 0 = (2, j)
    rw [code_aSend]; unfold famOf; rw [if_neg (by omega), if_neg (by omega), if_pos (by omega)]
    exact Prod.ext rfl (show 2 * (j / 2) + (12 + j % 2) - 12 = j by omega)
  | 3, d, j => by
    show famOf (code (.dma (aRecv j).sem)) (j / 2) 0 = (3, j)
    rw [code_aRecv]; unfold famOf; rw [if_neg (by omega), if_neg (by omega), if_neg (by omega), if_pos (by omega)]
    exact Prod.ext rfl (show 2 * (j / 2) + (14 + j % 2) - 14 = j by omega)
  | 4, d, j => rfl
  | 5, d, j => rfl
  | 6, d, j => rfl
  | 7, d, j => rfl

theorem tokOf_dev : ∀ (k : Fin 8) (d : Dev nD) (j : ℕ), (tokOf (d, k, j)).1.1.1 = d
  | 0, _, _ | 1, _, _ | 2, _, _ | 3, _, _ | 4, _, _ | 5, _, _ | 6, _, _ | 7, _, _ => rfl

theorem tokOf_inj : Function.Injective tokOf := by
  rintro ⟨d, k, j⟩ ⟨d', k', j'⟩ h
  have h1 : d = d' := by rw [← tokOf_dev k d j, h, tokOf_dev]
  have h2 : (k.val, j) = (k'.val, j') := by rw [← famOf_tok k d j, h, famOf_tok]
  have h3 : k.val = k'.val := congrArg Prod.fst h2
  have h4 : j = j' := congrArg Prod.snd h2
  exact Prod.ext h1 (Prod.ext (Fin.ext h3) h4)

def toksK : Finset (GSem nD τ sig × ℕ × ℕ) := (Finset.univ ×ˢ (Finset.univ ×ˢ Finset.Ico 0 16)).map ⟨tokOf, tokOf_inj⟩

/-! ## What is minted for a device's own semaphores and slots -/

def mint : sProp 𝕄 :=
  iprop((bigSep (Finset.Ico 0 16) fun j => dutyTok ER (cXS p j) (j / 4) 0) ∗ (bigSep (Finset.Ico 0 16) fun j => dutyTok ER (cXR p j) (j / 4) 0)
    ∗ (bigSep (Finset.Ico 0 16) fun j => dutyTok ER (cAS p j) (j / 2) 0) ∗ (bigSep (Finset.Ico 0 16) fun j => dutyTok ER (cAR p j) (j / 2) 0)
    ∗ (bigSep (Finset.Ico 0 16) fun j => dutyTok ER (cXC p) 0 j) ∗ (bigSep (Finset.Ico 0 16) fun j => dutyTok ER (cAC p) 0 j)
    ∗ dutyTok ER (cBar p) 0 0 ∗ dutyTok ER (cBar p) 0 1 ∗ dutyTok ER (cEnd p) 0 0 ∗ dutyTok ER (cEnd p) 0 1)

theorem first_two (Φ : ℕ → sProp 𝕄) : bigSep (Finset.Ico 0 16) Φ ⊢ iprop(Φ 0 ∗ Φ 1) :=
  (bs_part (Nat.le_refl 0) (by decide) Φ).trans (Entails.of_eq (bs_pair 0 Φ))

theorem toks_mint : (bigSep toksK fun x => (dutyTok ER x.1 x.2.1 x.2.2 : sProp 𝕄)) ⊢ bigSep Finset.univ fun d => mint d := by
  unfold toksK
  rw [bigSep_map, bs_prod]
  refine bigSep_mono fun d _ => ?_
  rw [bs_prod, bigSep_univ_eq_bigSepL [0, 1, 2, 3, 4, 5, 6, 7] (by decide) (by decide)]
  show iprop((bigSep (Finset.Ico 0 16) fun j => dutyTok ER (cXS d j) (j / 4) 0) ∗ (bigSep (Finset.Ico 0 16) fun j => dutyTok ER (cXR d j) (j / 4) 0)
    ∗ (bigSep (Finset.Ico 0 16) fun j => dutyTok ER (cAS d j) (j / 2) 0) ∗ (bigSep (Finset.Ico 0 16) fun j => dutyTok ER (cAR d j) (j / 2) 0)
    ∗ (bigSep (Finset.Ico 0 16) fun j => dutyTok ER (cXC d) 0 j) ∗ (bigSep (Finset.Ico 0 16) fun j => dutyTok ER (cAC d) 0 j)
    ∗ (bigSep (Finset.Ico 0 16) fun j => dutyTok ER (cBar d) 0 j) ∗ (bigSep (Finset.Ico 0 16) fun j => dutyTok ER (cEnd d) 0 j)) ⊢ (mint d : sProp 𝕄)
  unfold mint
  iintro ⟨H0, H1, H2, H3, H4, H5, H6, H7⟩
  ihave H6 := (first_two fun j => (dutyTok ER (cBar d) 0 j : sProp 𝕄)) $$ H6
  ihave H7 := (first_two fun j => (dutyTok ER (cEnd d) 0 j : sProp 𝕄)) $$ H7
  icases H6 with ⟨H6, H6'⟩
  icases H7 with ⟨H7, H7'⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H6']; · iexact H6'
  isplitl [H7] <;> iassumption

theorem cells_each (Φ : GSem nD τ sig → sProp 𝕄) :
    bigSep cellsK Φ = bigSep Finset.univ fun d : Dev nD => bigSep Finset.univ fun i : Fin 16 => Φ ((d : Thread nD τ), kc i) := by
  unfold cellsK; rw [bigSep_map, bigSep_univ_prod]; rfl

/-- What a device may write with, of its own slots, -/
def wtoks : sProp 𝕄 := bigSep (Finset.Ico 1 31) fun j => writeTok ES (p, j) 1
/-- and its side of them. -/
def rdrs : sProp 𝕄 := bigSep (Finset.Ico 1 31) fun j => readerAt ES (p, j) 0
def sinvs : sProp 𝕄 := bigSep (Finset.Ico 1 31) fun j => iprop(∃ n, slotInv ES n (p, j) (keySlot (p, j)))
def poss : sProp 𝕄 := bigSep Finset.univ fun i : Fin 16 => atPos ER ((p : Thread nD τ), kc i) 0 ∅ 0
def rchs : sProp 𝕄 := bigSep Finset.univ fun i : Fin 16 => reached ER ((p : Thread nD τ), kc i) 0
def states : sProp 𝕄 := bigSep Finset.univ fun i : Fin 16 => roundState ER (Rd I) ((p : Thread nD τ), kc i) 0
def cinvs : sProp 𝕄 := bigSep Finset.univ fun i : Fin 16 => iprop(∃ n : ℕ, cellInv ER (Rd I) n ((p : Thread nD τ), kc i))

/-- What the launch mints for a device. -/
def minted : sProp 𝕄 := iprop(states I p ∗ rchs p ∗ poss p ∗ mint p ∗ sinvs p ∗ rdrs p ∗ wtoks p)

theorem mint_cells : BI.own (ER (initOf cellsK toksK))
    ⊢ (|==> ((bigSep Finset.univ fun d => states I d) ∗ (bigSep Finset.univ fun d => rchs d) ∗ (bigSep Finset.univ fun d => poss d)
        ∗ bigSep Finset.univ fun d => mint d) : sProp 𝕄) := by
  iintro H
  imod (Rounds.fund ER (Rd I) cellsK toksK) $$ H with ⟨H1, H2, H3, H4⟩
  imodintro
  isplitl [H1]; · iapply (Entails.of_eq (cells_each fun g => roundState ER (Rd I) g 0)); iexact H1
  isplitl [H2]; · iapply (Entails.of_eq (cells_each fun g => reached ER g 0)); iexact H2
  isplitl [H3]; · iapply (Entails.of_eq (cells_each fun g => atPos ER g 0 ∅ 0)); iexact H3
  iapply (toks_mint (F := F)); iexact H4

theorem mint_slots : BI.own (ES (initSlots keys 1))
    ⊢ (|={Set.univ}=> ((bigSep Finset.univ fun d => sinvs d) ∗ (bigSep Finset.univ fun d => rdrs d) ∗ bigSep Finset.univ fun d => wtoks d) : sProp 𝕄) := by
  iintro H
  imod (slots_init ES keys 1 (keySlot (F := F)) (Es := Set.univ)) $$ H with ⟨%ιs, -, H1, H2, H3⟩
  imodintro
  isplitl [H1]
  · iapply (show (bigSep keys fun k => slotInv ES (ιs k) k (keySlot (F := F) k)) ⊢ bigSep Finset.univ fun d => sinvs d from by
      refine (bigSep_mono (Ψ := fun k => iprop(∃ n, slotInv ES n k (keySlot (F := F) k))) fun k _ => ?_).trans (Entails.of_eq (bs_prod _ _ _))
      show (slotInv ES (ιs k) k (keySlot (F := F) k) : sProp 𝕄) ⊢ iprop(∃ n, slotInv ES n k (keySlot (F := F) k))
      iintro H; iexists ιs k; iexact H)
    iexact H1
  isplitl [H2]
  · iapply (Entails.of_eq (show (bigSep keys fun k => (readerAt ES k 0 : sProp 𝕄)) = bigSep Finset.univ fun d => rdrs d from bs_prod _ _ _)); iexact H2
  iapply (Entails.of_eq (show (bigSep (keys ×ˢ Finset.range 1) fun x => (writeTok ES x.1 (x.2 + 1) : sProp 𝕄)) = bigSep Finset.univ fun d => wtoks d from by
    rw [bs_prod]
    refine (bigSep_congr fun k _ => ?_).trans (bs_prod _ _ fun k => (writeTok ES k 1 : sProp 𝕄))
    rw [Finset.range_one, bigSep_singleton]))
  iexact H3

theorem mint_all : iprop(BI.own (ER (initOf cellsK toksK)) ∗ BI.own (ES (initSlots keys 1))) ⊢ (|={Set.univ}=> bigSep Finset.univ (minted I) : sProp 𝕄) := by
  iintro ⟨H1, H2⟩
  imod (mint_cells I) $$ H1 with ⟨Ha, Hb, Hc, Hd⟩
  imod (mint_slots (F := F)) $$ H2 with ⟨He, Hf, Hg⟩
  imodintro
  unfold minted
  simp only [bigSep_sep']
  isplitl [Ha]; · iexact Ha
  isplitl [Hb]; · iexact Hb
  isplitl [Hc]; · iexact Hc
  isplitl [Hd]; · iexact Hd
  isplitl [He]; · iexact He
  isplitl [Hf] <;> iassumption

/-! ## The dealing -/

/-- What a device holds of the others' and of its own once everything is dealt. -/
def hand : sProp 𝕄 :=
  iprop(poss p ∗ rdrs p ∗ wtoks (nxt p)
    ∗ (bigSep (Finset.Ico 0 16) fun j => dutyTok ER (cXS p j) (j / 4) 0) ∗ (bigSep (Finset.Ico 0 16) fun j => dutyTok ER (cXR (nxt p) j) (j / 4) 0)
    ∗ (bigSep (Finset.Ico 0 16) fun j => dutyTok ER (cAS p j) (j / 2) 0) ∗ (bigSep (Finset.Ico 0 16) fun j => dutyTok ER (cAR (nxt p) j) (j / 2) 0)
    ∗ (bigSep (Finset.Ico 0 16) fun j => dutyTok ER (cXC (prv p)) 0 j) ∗ (bigSep (Finset.Ico 0 16) fun j => dutyTok ER (cAC (prv p)) 0 j)
    ∗ dutyTok ER (cBar (prv p)) 0 0 ∗ dutyTok ER (cBar (nxt p)) 0 1 ∗ dutyTok ER (cEnd (prv p)) 0 0 ∗ dutyTok ER (cEnd (nxt p)) 0 1)

theorem deal :
    iprop((bigSep Finset.univ fun d => poss d) ∗ (bigSep Finset.univ fun d => mint d) ∗ (bigSep Finset.univ fun d => rdrs d) ∗ bigSep Finset.univ fun d => wtoks d)
      ⊢ (bigSep Finset.univ fun d => hand d : sProp 𝕄) := by
  unfold hand mint
  simp only [bigSep_sep']
  iintro ⟨Hp, ⟨H0, H1, H2, H3, H4, H5, H6, H6', H7, H7'⟩, Hr, Hw⟩
  isplitl [Hp]; · iexact Hp
  isplitl [Hr]; · iexact Hr
  isplitl [Hw]; · iapply (Entails.of_eq (bs_nxt fun d => (wtoks d : sProp 𝕄))); iexact Hw
  isplitl [H0]; · iexact H0
  isplitl [H1]; · iapply (Entails.of_eq (bs_nxt fun d => (bigSep (Finset.Ico 0 16) fun j => dutyTok ER (cXR d j) (j / 4) 0 : sProp 𝕄))); iexact H1
  isplitl [H2]; · iexact H2
  isplitl [H3]; · iapply (Entails.of_eq (bs_nxt fun d => (bigSep (Finset.Ico 0 16) fun j => dutyTok ER (cAR d j) (j / 2) 0 : sProp 𝕄))); iexact H3
  isplitl [H4]; · iapply (Entails.of_eq (bs_prv fun d => (bigSep (Finset.Ico 0 16) fun j => dutyTok ER (cXC d) 0 j : sProp 𝕄))); iexact H4
  isplitl [H5]; · iapply (Entails.of_eq (bs_prv fun d => (bigSep (Finset.Ico 0 16) fun j => dutyTok ER (cAC d) 0 j : sProp 𝕄))); iexact H5
  isplitl [H6]; · iapply (Entails.of_eq (bs_prv fun d => (dutyTok ER (cBar d) 0 0 : sProp 𝕄))); iexact H6
  isplitl [H6']; · iapply (Entails.of_eq (bs_nxt fun d => (dutyTok ER (cBar d) 0 1 : sProp 𝕄))); iexact H6'
  isplitl [H7]; · iapply (Entails.of_eq (bs_prv fun d => (dutyTok ER (cEnd d) 0 0 : sProp 𝕄))); iexact H7
  iapply (Entails.of_eq (bs_nxt fun d => (dutyTok ER (cEnd d) 0 1 : sProp 𝕄))); iexact H7'

/-! ## A device's start -/

/-- The part of a device's start that concerns the blocks of `x`, of the partial sums. -/
theorem begin_x :
    iprop((bigSep (Finset.Ico 1 16) fun j => writeTok ES (nxt p, j) 1)
      ∗ (bigSep (Finset.Ico 0 16) fun j => dutyTok ER (cXS p j) (j / 4) 0) ∗ (bigSep (Finset.Ico 0 16) fun j => dutyTok ER (cXR (nxt p) j) (j / 4) 0))
      ⊢ (bigSep (Finset.Ico 0 15) (fTX p) : sProp 𝕄) := by
  unfold fTX
  simp only [bigSep_sep']
  iintro ⟨H1, H2, H3⟩
  isplitl [H1]; · iapply (Entails.of_eq (bs_shift 0 15 1 fun j => (writeTok ES (nxt p, j) 1 : sProp 𝕄))); iexact H1
  isplitl [H2]; · iapply (bs_part (Nat.le_refl 0) (show 15 ≤ 16 by decide) fun j => (dutyTok ER (cXS p j) (j / 4) 0 : sProp 𝕄)); iexact H2
  iapply (Entails.of_eq (bs_shift 0 15 1 fun j => (dutyTok ER (cXR (nxt p) j) (j / 4) 0 : sProp 𝕄)))
  iapply (bs_part (show 0 ≤ 1 by decide) (Nat.le_refl 16) fun j => (dutyTok ER (cXR (nxt p) j) (j / 4) 0 : sProp 𝕄)); iexact H3

theorem begin_a :
    iprop((bigSep (Finset.Ico 16 31) fun j => writeTok ES (nxt p, j) 1)
      ∗ (bigSep (Finset.Ico 0 16) fun j => dutyTok ER (cAS p j) (j / 2) 0) ∗ (bigSep (Finset.Ico 0 16) fun j => dutyTok ER (cAR (nxt p) j) (j / 2) 0))
      ⊢ (bigSep (Finset.Ico 0 15) (fTA p) : sProp 𝕄) := by
  unfold fTA
  simp only [bigSep_sep']
  iintro ⟨H1, H2, H3⟩
  isplitl [H1]
  · ihave H1 := (Entails.of_eq (bs_shift 0 15 16 fun j => (writeTok ES (nxt p, j) 1 : sProp 𝕄))) $$ H1
    iapply (Entails.of_eq (bigSep_congr fun s (_ : s ∈ Finset.Ico 0 15) => show (writeTok ES (nxt p, s + 16) 1 : sProp 𝕄) = writeTok ES (nxt p, 16 + s) 1 by rw [Nat.add_comm]))
    iexact H1
  isplitl [H2]; · iapply (bs_part (Nat.le_refl 0) (show 15 ≤ 16 by decide) fun j => (dutyTok ER (cAS p j) (j / 2) 0 : sProp 𝕄)); iexact H2
  iapply (bs_part (Nat.le_refl 0) (show 15 ≤ 16 by decide) fun j => (dutyTok ER (cAR (nxt p) j) (j / 2) 0 : sProp 𝕄)); iexact H3

end Cert.AgRs

end
-- ==== Proof.Start.lean ====
/-
  Every device's start: the invariants of all semaphores are opened at once, and what is dealt, with the launch's credit, is what
  the body starts from.
-/
module

public import proofs.«01_k».proof.Proof.Deal

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

variable (p : Dev nD)

theorem bs_cut {a b c : ℕ} (h1 : a ≤ b) (h2 : b ≤ c) (Φ : ℕ → sProp 𝕄) :
    bigSep (Finset.Ico a c) Φ = iprop(bigSep (Finset.Ico a b) Φ ∗ bigSep (Finset.Ico b c) Φ) := by
  rw [← Finset.Ico_union_Ico_eq_Ico h1 h2]
  exact bigSep_union (Finset.Ico_disjoint_Ico_consecutive a b c)

/-- What is shared by all devices, the levels apart. -/
def known : sProp 𝕄 :=
  iprop((bigSep Finset.univ fun x : Dev nD × Fin 16 => iprop((∃ n, cellInv ER (Rd I) n ((x.1 : Thread nD τ), kc x.2)) ∗ reached ER ((x.1 : Thread nD τ), kc x.2) 0))
    ∗ (bigSep keys fun k => iprop(∃ n, slotInv ES n k (keySlot k))))

instance known_persistent : BI.Persistent (known I) := by unfold known; infer_instance

theorem know_of : iprop(known I ∗ Lev) ⊢ Know I := by
  unfold known Know
  iintro ⟨⟨H1, H2⟩, H3⟩
  isplitl [H1]; · iexact H1
  isplitl [H2] <;> iassumption

/-! ## The global step -/

/-- The kernel's own semaphores: all of `kc`'s but the entry handshake's. -/
abbrev osem : Fin 15 → SemLoc sig := fun k => kc ⟨if k.val < 14 then k.val else 15, by split <;> omega⟩

theorem ownSemFacts : Pipeline.OwnSemFacts cfg0.spec osem := by decide

/-- One of sixteen moved to the end. -/
theorem last_but_one (a0 a1 a2 a3 a4 a5 a6 a7 a8 a9 a10 a11 a12 a13 a14 a15 : sProp 𝕄) :
    iprop(a0 ∗ a1 ∗ a2 ∗ a3 ∗ a4 ∗ a5 ∗ a6 ∗ a7 ∗ a8 ∗ a9 ∗ a10 ∗ a11 ∗ a12 ∗ a13 ∗ a14 ∗ a15) = iprop((a0 ∗ a1 ∗ a2 ∗ a3 ∗ a4 ∗ a5 ∗ a6 ∗ a7 ∗ a8 ∗ a9 ∗ a10 ∗ a11 ∗ a12 ∗ a13 ∗ a15) ∗ a14) := by
  refine equiv_iff.mp ⟨show (iprop(a0 ∗ a1 ∗ a2 ∗ a3 ∗ a4 ∗ a5 ∗ a6 ∗ a7 ∗ a8 ∗ a9 ∗ a10 ∗ a11 ∗ a12 ∗ a13 ∗ a14 ∗ a15) : sProp 𝕄) ⊢ iprop((a0 ∗ a1 ∗ a2 ∗ a3 ∗ a4 ∗ a5 ∗ a6 ∗ a7 ∗ a8 ∗ a9 ∗ a10 ∗ a11 ∗ a12 ∗ a13 ∗ a15) ∗ a14) from ?_, show (iprop((a0 ∗ a1 ∗ a2 ∗ a3 ∗ a4 ∗ a5 ∗ a6 ∗ a7 ∗ a8 ∗ a9 ∗ a10 ∗ a11 ∗ a12 ∗ a13 ∗ a15) ∗ a14) : sProp 𝕄) ⊢ iprop(a0 ∗ a1 ∗ a2 ∗ a3 ∗ a4 ∗ a5 ∗ a6 ∗ a7 ∗ a8 ∗ a9 ∗ a10 ∗ a11 ∗ a12 ∗ a13 ∗ a14 ∗ a15) from ?_⟩
  · iintro ⟨H0, H1, H2, H3, H4, H5, H6, H7, H8, H9, H10, H11, H12, H13, H14, H15⟩
    isplitr [H14]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H15
    iexact H14
  · iintro ⟨⟨H0, H1, H2, H3, H4, H5, H6, H7, H8, H9, H10, H11, H12, H13, H15⟩, H14⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem sems0_eq :
    (bigSep Finset.univ fun i : Fin 16 => semVal ((p : Thread nD τ), kc i) 0 : sProp 𝕄)
      = iprop(Pipeline.ownSems0 (Ix := ℕ) (Name := ℕ) (U := UU) (Lvl := ℕ) (Val := Elt F) (τ := τ) osem p ∗ unscopedSems0 p) := by
  rw [show (unscopedSems0 p : sProp 𝕄) = semVal ((p : Thread nD τ), kc 14) 0 from by
      unfold unscopedSems0; rw [bigSep_eq_bigSepL_of_eq [SemLoc.reg barS.sem] (by decide) (by decide)]; rfl,
    sems16 fun sm => semVal ((p : Thread nD τ), sm) 0,
    Pipeline.ownSems0_eq_of_list p osem [0, 1, 2, 3, 4, 5, 6, 7, 8, 9, 10, 11, 12, 13, 14] (by decide) (by decide)]
  exact last_but_one ..

theorem alloc_cells :
    iprop(Pipeline.ownSems0 (Ix := ℕ) (Name := ℕ) (U := UU) (Lvl := ℕ) (Val := Elt F) (τ := τ) osem p ∗ unscopedSems0 p ∗ minted I p)
      ⊢ (|={Set.univ}=> (cinvs I p ∗ rchs p ∗ poss p ∗ mint p ∗ sinvs p ∗ rdrs p ∗ wtoks p) : sProp 𝕄) := by
  unfold minted
  iintro ⟨Ho, Hu, Hst, Hrest⟩
  ihave Hv := (Entails.of_eq (sems0_eq (F := F) p).symm) $$ [Ho Hu]
  · isplitl [Ho] <;> iassumption
  imod (show iprop((bigSep Finset.univ fun i : Fin 16 => semVal ((p : Thread nD τ), kc i) 0) ∗ states I p) ⊢ (|={Set.univ}=> cinvs I p : sProp 𝕄) from by
    unfold states cinvs
    rw [← bigSep_sep']
    exact (bigSep_mono fun i _ => (Rounds.body_intro ER (Rd I) ((p : Thread nD τ), kc i)).trans inv_alloc).trans (bigSep_fupd _ _)) $$ [Hv Hst] with Hinv
  · isplitl [Hv] <;> iassumption
  imodintro
  isplitl [Hinv] <;> iassumption

theorem share_out :
    (bigSep Finset.univ fun d : Dev nD => iprop(cinvs I d ∗ rchs d ∗ poss d ∗ mint d ∗ sinvs d ∗ rdrs d ∗ wtoks d) : sProp 𝕄)
      ⊢ bigSep Finset.univ fun d => iprop(known I ∗ hand d) := by
  simp only [bigSep_sep']
  iintro ⟨Hc, Hr, Hp, Hm, Hs, Hrd, Hw⟩
  isplitl [Hc Hr Hs]
  · iapply (bigSep_of_persistent Finset.univ (known I))
    unfold known
    isplitl [Hc Hr]
    · rw [bigSep_univ_prod]
      simp only [bigSep_sep']
      isplitl [Hc]; · iexact Hc
      iexact Hr
    · iapply (Entails.of_eq (bs_prod Finset.univ (Finset.Ico 1 31) fun k => iprop(∃ n, slotInv ES n k (keySlot (F := F) k))).symm)
      iexact Hs
  · iapply (deal (F := F))
    isplitl [Hp]; · iexact Hp
    isplitl [Hm]; · iexact Hm
    isplitl [Hrd] <;> iassumption

theorem glob :
    (bigSep Finset.univ fun d => iprop(Pipeline.ownSems0 (Ix := ℕ) (Name := ℕ) (U := UU) (Lvl := ℕ) (Val := Elt F) (τ := τ) osem d ∗ unscopedSems0 d ∗ minted I d) : sProp 𝕄)
      ⊢ |={Set.univ}=> bigSep Finset.univ fun d => iprop(known I ∗ hand d) :=
  ((bigSep_mono fun d _ => alloc_cells I d).trans (bigSep_fupd _ _)).trans (BI.fupd_mono (share_out I))

/-! ## A device's start -/

theorem start_pos :
    iprop(known I ∗ poss p) ⊢ (iprop(bigSep (Finset.Ico 0 4) (fPXS p) ∗ bigSep (Finset.Ico 0 4) (fPXR p) ∗ bigSep (Finset.Ico 0 2) (fPAS p) ∗ bigSep (Finset.Ico 0 2) (fPAR p)
      ∗ atPos ER (cXC p) 0 ∅ 0 ∗ atPos ER (cAC p) 0 ∅ 0 ∗ atPos ER (cBar p) 0 ∅ 0 ∗ atPos ER (cEnd p) 0 ∅ 0) : sProp 𝕄) := by
  unfold known poss
  rw [bs_four 0, bs_four 0, bs_pair 0, bs_pair 0, sems16 fun sm => atPos ER ((p : Thread nD τ), sm) 0 ∅ 0, bigSep_univ_prod]
  unfold fPXS fPXR fPAS fPAR
  iintro ⟨⟨Hk, -⟩, S0, S1, S2, S3, R0, R1, R2, R3, A0, A1, B0, B1, XC, AC, BA, EN⟩
  ihave Hk := (show (bigSep Finset.univ fun d : Dev nD => bigSep Finset.univ fun i : Fin 16 => iprop((∃ n, cellInv ER (Rd I) n ((d : Thread nD τ), kc i)) ∗ reached ER ((d : Thread nD τ), kc i) 0) : sProp 𝕄)
    ⊢ bigSep Finset.univ fun i : Fin 16 => iprop((∃ n, cellInv ER (Rd I) n ((p : Thread nD τ), kc i)) ∗ reached ER ((p : Thread nD τ), kc i) 0) from bigSep_elim (Finset.mem_univ p)) $$ Hk
  ihave Hk := (Entails.of_eq (sems16 fun sm => iprop((∃ n, cellInv ER (Rd I) n ((p : Thread nD τ), sm)) ∗ reached ER ((p : Thread nD τ), sm) 0))) $$ Hk
  icases Hk with ⟨⟨-, s0⟩, ⟨-, s1⟩, ⟨-, s2⟩, ⟨-, s3⟩, ⟨-, r0⟩, ⟨-, r1⟩, ⟨-, r2⟩, ⟨-, r3⟩, ⟨-, a0⟩, ⟨-, a1⟩, ⟨-, b0⟩, ⟨-, b1⟩, -⟩
  isplitl [S0 S1 S2 S3 s0 s1 s2 s3]
  · isplitl [S0 s0]; · (isplitl [S0]; · iexact S0); iexact s0
    isplitl [S1 s1]; · (isplitl [S1]; · iexact S1); iexact s1
    isplitl [S2 s2]; · (isplitl [S2]; · iexact S2); iexact s2
    (isplitl [S3]; · iexact S3); iexact s3
  isplitl [R0 R1 R2 R3 r0 r1 r2 r3]
  · isplitl [R0 r0]; · (isplitl [R0]; · iexact R0); iexact r0
    isplitl [R1 r1]; · (isplitl [R1]; · iexact R1); iexact r1
    isplitl [R2 r2]; · (isplitl [R2]; · iexact R2); iexact r2
    (isplitl [R3]; · iexact R3); iexact r3
  isplitl [A0 A1 a0 a1]
  · isplitl [A0 a0]; · (isplitl [A0]; · iexact A0); iexact a0
    (isplitl [A1]; · iexact A1); iexact a1
  isplitl [B0 B1 b0 b1]
  · isplitl [B0 b0]; · (isplitl [B0]; · iexact B0); iexact b0
    (isplitl [B1]; · iexact B1); iexact b1
  isplitl [XC]; · iexact XC
  isplitl [AC]; · iexact AC
  isplitl [BA] <;> iassumption

theorem start_rdrs :
    rdrs p ⊢ (iprop(begR p ∗ (bigSep (Finset.Ico 0 12) fun h => readerAt ES (p, h + 4) 0) ∗ bigSep (Finset.Ico 0 13) fun s => readerAt ES (p, 16 + (s + 2)) 0) : sProp 𝕄) := by
  unfold rdrs begR
  rw [bs_take (by decide), bs_take (by decide), bs_take (by decide), bs_cut (show 4 ≤ 16 by decide) (show 16 ≤ 31 by decide), bs_take (show 16 < 31 by decide), bs_take (show 16 + 1 < 31 by decide)]
  iintro ⟨H1, H2, H3, HX, H16, H17, HA⟩
  isplitl [H1 H2 H3 H16 H17]
  · isplitl [H1]; · iexact H1
    isplitl [H2]; · iexact H2
    isplitl [H3]; · iexact H3
    isplitl [H16] <;> iassumption
  isplitl [HX]; · iapply (Entails.of_eq (bs_shift 0 12 4 fun j => (readerAt ES (p, j) 0 : sProp 𝕄))); iexact HX
  iapply (Entails.of_eq (bigSep_congr fun s (_ : s ∈ Finset.Ico 0 13) => show (readerAt ES (p, s + 18) 0 : sProp 𝕄) = readerAt ES (p, 16 + (s + 2)) 0 by
    rw [show s + 18 = 16 + (s + 2) by omega]))
  iapply (Entails.of_eq (bs_shift 0 13 18 fun j => (readerAt ES (p, j) 0 : sProp 𝕄))); iexact HA

theorem start_beg : iprop(known I ∗ hand p ∗ Pipeline.launchCred (fun d => tallyL (duesAll d)) p) ⊢ (beg p : sProp 𝕄) := by
  rw [launch_credit]
  unfold hand beg begX begA begB begE wtoks
  rw [bs_cut (show 1 ≤ 16 by decide) (show 16 ≤ 31 by decide) fun j => writeTok ES (nxt p, j) 1]
  iintro ⟨HK, ⟨Hp, Hr, ⟨HwX, HwA⟩, H0, H1, H2, H3, H4, H5, H6, H6', H7, H7'⟩, Hb, He, HcX, HcXC, HcA, HcAC⟩
  ihave Hp := (start_pos I p) $$ [HK Hp]
  · isplitl [HK] <;> iassumption
  icases Hp with ⟨HpXS, HpXR, HpAS, HpAR, HXC, HAC, HB, HE⟩
  ihave Hr := (start_rdrs (F := F) p) $$ Hr
  icases Hr with ⟨HR, HrX, HrA⟩
  isplitl [HwX H0 H1 HpXS HcX HpXR HcXC HXC H4 HrX]
  · isplitl [HwX H0 H1]
    · iapply (begin_x (F := F) p)
      isplitl [HwX]; · iexact HwX
      isplitl [H0] <;> iassumption
    isplitl [HpXS]; · iexact HpXS
    isplitl [HcX]; · iexact HcX
    isplitl [HpXR]; · iexact HpXR
    isplitl [HcXC]; · iexact HcXC
    isplitl [HXC]; · iexact HXC
    unfold fGX
    simp only [bigSep_sep']
    isplitl [H4]; · iapply (bs_part (Nat.le_refl 0) (show 12 ≤ 16 by decide) fun j => (dutyTok ER (cXC (prv p)) 0 j : sProp 𝕄)); iexact H4
    iexact HrX
  isplitl [HwA H2 H3 HpAS HcA HpAR HcAC HAC H5 HrA]
  · isplitl [HwA H2 H3]
    · iapply (begin_a (F := F) p)
      isplitl [HwA]; · iexact HwA
      isplitl [H2] <;> iassumption
    isplitl [HpAS]; · iexact HpAS
    isplitl [HcA]; · iexact HcA
    isplitl [HpAR]; · iexact HpAR
    isplitl [HcAC]; · iexact HcAC
    isplitl [HAC]; · iexact HAC
    unfold fGA
    simp only [bigSep_sep']
    isplitl [H5]; · iapply (bs_part (Nat.le_refl 0) (show 13 ≤ 16 by decide) fun j => (dutyTok ER (cAC (prv p)) 0 j : sProp 𝕄)); iexact H5
    iexact HrA
  isplitl [HR]; · iexact HR
  isplitl [H6 H6' HB Hb]
  · isplitl [H6]; · iexact H6
    isplitl [H6']; · iexact H6'
    isplitl [HB] <;> iassumption
  isplitl [H7]; · iexact H7
  isplitl [H7']; · iexact H7'
  isplitl [HE] <;> iassumption

end Cert.AgRs

end
-- ==== Proof.Scratch.lean ====
/-
  The three scratch buffers as slots: each is cut by rows into its slots, and put together from them.
-/
module

public import proofs.«01_k».proof.Proof.Body

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

variable (p : Dev nD)

/-! ## Cutting and joining -/

theorem slot_cut {ℓ : Loc nD τ sig} {A B : Finset (Idx ℓ)} (h : Disjoint A B) : slot ℓ (A ∪ B) ⊢ (iprop(slot ℓ A ∗ slot ℓ B) : sProp 𝕄) := by
  unfold slot
  iintro ⟨%f, H⟩
  ihave H := (pointsTo_union h).1 $$ H
  icases H with ⟨H1, H2⟩
  isplitl [H1]
  · iexists f; iexact H1
  · iexists f; iexact H2

theorem slot_join {ℓ : Loc nD τ sig} {A B : Finset (Idx ℓ)} (h : Disjoint A B) : iprop(slot ℓ A ∗ slot ℓ B) ⊢ (slot ℓ (A ∪ B) : sProp 𝕄) := by
  unfold slot
  iintro ⟨⟨%f, H1⟩, ⟨%g, H2⟩⟩
  iexists _
  iapply (pointsTo_join h)
  isplitl [H1] <;> iassumption

theorem slot_eq {ℓ : Loc nD τ sig} {A B : Finset (Idx ℓ)} (h : Disjoint A B) : (slot ℓ (A ∪ B) : sProp 𝕄) = iprop(slot ℓ A ∗ slot ℓ B) :=
  equiv_iff.mp ⟨slot_cut h, slot_join h⟩

/-! ## The buffers -/

theorem fr_xs (t : ℕ) : (fr p (xs t) : sProp 𝕄) = slot ((p : Thread nD τ).loc cc0_scratch0) (r4 t).set := by
  unfold fr
  exact congrArg (fun S => (slot ((p : Thread nD τ).loc cc0_scratch0) S : sProp 𝕄)) ((View.set_slice xcM.view (r4 t)).trans Finset.map_refl)
theorem fr_ar (s : ℕ) : (fr p (ar s) : sProp 𝕄) = slot ((p : Thread nD τ).loc cc0_scratch1) (r2 s).set := by
  unfold fr
  exact congrArg (fun S => (slot ((p : Thread nD τ).loc cc0_scratch1) S : sProp 𝕄)) ((View.set_slice arM.view (r2 s)).trans Finset.map_refl)
theorem fr_ao (s : ℕ) : (fr p (ao s) : sProp 𝕄) = slot ((p : Thread nD τ).loc cc0_scratch2) (r2 s).set := by
  unfold fr
  exact congrArg (fun S => (slot ((p : Thread nD τ).loc cc0_scratch2) S : sProp 𝕄)) ((View.set_slice asM.view (r2 s)).trans Finset.map_refl)

theorem in4 (t : ℕ) (i : S4096x1024.Idx) : i ∈ (r4 t).set ↔ 1024 * (t % 4) ≤ (i 0).val ∧ (i 0).val < 1024 * (t % 4) + 1024 := by
  rw [Rect.mem_set_unit, Fin.forall_fin_two]
  have : (i 1).val < 1024 := (i 1).isLt
  exact ⟨fun h => h.1, fun h => ⟨h, Nat.zero_le _, by show (i 1).val < 0 + 1024; omega⟩⟩
theorem in2 (s : ℕ) (i : S2048x1024.Idx) : i ∈ (r2 s).set ↔ 1024 * (s % 2) ≤ (i 0).val ∧ (i 0).val < 1024 * (s % 2) + 1024 := by
  rw [Rect.mem_set_unit, Fin.forall_fin_two]
  have : (i 1).val < 1024 := (i 1).isLt
  exact ⟨fun h => h.1, fun h => ⟨h, Nat.zero_le _, by show (i 1).val < 0 + 1024; omega⟩⟩

theorem cover4 : (Finset.univ : Finset S4096x1024.Idx) = (r4 0).set ∪ ((r4 1).set ∪ ((r4 2).set ∪ (r4 3).set)) := by
  ext i
  have : (i 0).val < 4096 := (i 0).isLt
  simp only [Finset.mem_univ, Finset.mem_union, in4, true_iff]
  omega
theorem cover2 : (Finset.univ : Finset S2048x1024.Idx) = (r2 0).set ∪ (r2 1).set := by
  ext i
  have : (i 0).val < 2048 := (i 0).isLt
  simp only [Finset.mem_univ, Finset.mem_union, in2, true_iff]
  omega

theorem whole_slots : (Pipeline.scopedRest (Ix := ℕ) (Name := ℕ) (U := UU) (Lvl := ℕ) (Val := Elt F) spec0 p : sProp 𝕄) = slots p := by
  have hX : slotsX p = (slot ((p : Thread nD τ).loc cc0_scratch0) Finset.univ : sProp 𝕄) := by
    unfold slotsX
    simp only [fr_xs]
    rw [← slot_eq, ← slot_eq, ← slot_eq]
    · exact congrArg (fun S => (slot ((p : Thread nD τ).loc cc0_scratch0) S : sProp 𝕄)) cover4.symm
    all_goals (refine Finset.disjoint_left.mpr fun (i : S4096x1024.Idx) h1 h2 => ?_; simp only [Finset.mem_union, in4] at h1 h2; omega)
  have hR : slotsR p = (slot ((p : Thread nD τ).loc cc0_scratch1) Finset.univ : sProp 𝕄) := by
    unfold slotsR
    simp only [fr_ar]
    rw [← slot_eq]
    · exact congrArg (fun S => (slot ((p : Thread nD τ).loc cc0_scratch1) S : sProp 𝕄)) cover2.symm
    all_goals (refine Finset.disjoint_left.mpr fun (i : S2048x1024.Idx) h1 h2 => ?_; simp only [in2] at h1 h2; omega)
  have hO : slotsO p = (slot ((p : Thread nD τ).loc cc0_scratch2) Finset.univ : sProp 𝕄) := by
    unfold slotsO
    simp only [fr_ao]
    rw [← slot_eq]
    · exact congrArg (fun S => (slot ((p : Thread nD τ).loc cc0_scratch2) S : sProp 𝕄)) cover2.symm
    all_goals (refine Finset.disjoint_left.mpr fun (i : S2048x1024.Idx) h1 h2 => ?_; simp only [in2] at h1 h2; omega)
  unfold slots
  rw [scopedRest0_eq, hX, hR, hO]
  rfl

end Cert.AgRs

end
-- ==== Proof.BodyEq.lean ====
/-
  The printed body is the sequence of iterations of `Pieces`.
-/
module

public import proofs.«01_k».proof.Proof.Pieces

@[expose] public section

noncomputable section

namespace Cert.AgRs

open Idealize.ShloMosaic Idealize.SL.Sem
open Cert.KernelIdeal Cert.KernelIdeal.Gen

variable {F : FTy → Type} [FloatOps F]

/-- The printed body over the call's staging buffers, scratch buffers and semaphores. -/
abbrev printed : PROG F PUnit :=
  cc0_body xM (Memref.isWhole_whole _) w1M (Memref.isWhole_whole _) w2M (Memref.isWhole_whole _) oM (Memref.isWhole_whole _)
    xcM (Memref.isWhole_whole _) arM (Memref.isWhole_whole _) asM (Memref.isWhole_whole _)
    cc0_scratch3 cc0_scratch4 cc0_scratch5 cc0_scratch6 cc0_scratch7 cc0_scratch8 cc0_scoped0

set_option maxRecDepth 65536 in
set_option maxHeartbeats 0 in
theorem body_eq : (printed : PROG F PUnit) = bodyP := by
  unfold printed
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, bind_assoc, pure_bind]
  simp only [bodyP, enter, hops, hop, hopX, hopA, aSendOff, leave, ownX, farewell, bind_assoc, pure_bind,
    contrib, xArrive, xStart, xDone, xLoad, xGive, xGot, aArrive, aLoad, aGive, aGot, aPeek, aPut, aStart, aDone, Nat.reduceAdd, Nat.reduceSub, Nat.reduceLeDiff, Nat.reduceEqDiff, and_true, and_false, true_and, and_self, ↓reduceIte]
  repeat refine bind_congr fun _ => ?_
  rfl

end Cert.AgRs

end
-- ==== Proof.Run.lean ====
/-
  The launch: the body's obligation on every device, and the run of the program from any memory.
-/
module

public import proofs.«01_k».proof.Proof.Start
public import proofs.«01_k».proof.Proof.Scratch
public import proofs.«01_k».proof.Proof.BodyEq
public import proofs.«01_k».proof.Proof.Gen.KernelIdeal.Points
public import Idealize.ShloMosaic.Lib.Pipeline.CollectiveSegs

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)

variable (m : (ℓ : Loc nD τ sig) → Buf (Elt F) ℓ) (ρ : Dev nD → PrngReg) (p : Dev nD)

abbrev t₀ : Fin cfg0.N := (0 : Fin 1)

/-- The argument blocks as the windows stage them. -/
def insOf : Ins F where
  x d := (win0_0.blk (0 : Fin 1)).view.read (Elt F) (m ((d : Thread nD τ).loc main_arg0))
  w1 d := (win0_1.blk (0 : Fin 1)).view.read (Elt F) (m ((d : Thread nD τ).loc main_arg1))
  w2 d := (win0_2.blk (0 : Fin 1)).view.read (Elt F) (m ((d : Thread nD τ).loc main_arg2))

/-- What a device starts the body from, and ends it with, besides the windows. -/
def Φ₀ : sProp 𝕄 := iprop((Know (insOf m) ∗ beg p) ∗ slots p)
def Φ₁ : sProp 𝕄 := iprop(slots p ∗ closed p)

def dats (_ : Fin 1) (p : Dev nD) : Dat τ (Elt F) ℕ ℕ UU ℕ cfg0 p where
  A w := m ((cfg0.win w).arr.view.loc (p : Thread nD τ))
  after w _ := match w with
    | ⟨0, _⟩ => (insOf m).x p
    | ⟨1, _⟩ => (insOf m).w1 p
    | ⟨2, _⟩ => (insOf m).w2 p
    | ⟨3, _⟩ => outV (insOf m) p
  Φ t := match t with
    | ⟨0, _⟩ => Φ₀ m p
    | ⟨_ + 1, _⟩ => Φ₁ p
  q _ := fullShare
  owed t := match t with
    | ⟨0, _⟩ => tallyL (duesAll p)
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (b : Ref sig .tc) (X : b.ty.Contents (Elt F)) :
    (owns (Ix := ℕ) (Name := ℕ) (U := UU) (Lvl := ℕ) (p : Thread nD τ) (Memref.whole b) fullShare X : sProp 𝕄)
      = iprop(∃ f : Buf (Elt F) ((p : Thread nD τ).loc b), ⌜f = X⌝ ∗ (((p : Thread nD τ).loc b) ↦{fullShare} f)) := by
  unfold owns; simp only [Memref.view_whole, View.read_whole, View.set_whole]

/-! ## The body -/

abbrev stg (b : Ref sig .tc) (X : b.ty.Contents (Elt F)) : sProp 𝕄 :=
  iprop(∃ f : Buf (Elt F) ((p : Thread nD τ).loc b), ⌜f = X⌝ ∗ (((p : Thread nD τ).loc b) ↦{fullShare} f))

def bodyPre : sProp 𝕄 :=
  iprop(Φ₀ m p ∗ (dats m 0 p).owesAt 0 t₀.castSucc
    ∗ (∃ d, stg p cc0_stg0_0 ((dats m 0 p).before (0 : Fin 4) t₀ d))
    ∗ (∃ d, stg p cc0_stg1_0 ((dats m 0 p).before (1 : Fin 4) t₀ d))
    ∗ (∃ d, stg p cc0_stg2_0 ((dats m 0 p).before (2 : Fin 4) t₀ d))
    ∗ (∃ d, stg p cc0_stg3_0 ((dats m 0 p).before (3 : Fin 4) t₀ d)))

def bodyPost : sProp 𝕄 :=
  iprop(Φ₁ p ∗ (dats m 0 p).owesAt 0 t₀.succ ∗ stg p cc0_stg0_0 ((insOf m).x p) ∗ stg p cc0_stg1_0 ((insOf m).w1 p) ∗ stg p cc0_stg2_0 ((insOf m).w2 p)
    ∗ stg p cc0_stg3_0 (outV (insOf m) p))

theorem body_sound : bodyPre m p ⊢ WP p (printed (F := F)) (fun _ => bodyPost m p) := by
  rw [body_eq]
  unfold bodyPre Φ₀
  iintro ⟨⟨⟨HK, Hb⟩, Hs⟩, Ho, ⟨%d0, %g0, %h0, Hx⟩, ⟨%d1, %g1, %h1, Hw1⟩, ⟨%d2, %g2, %h2, Hw2⟩, ⟨%d3, %g3, %h3, Hout⟩⟩
  have e0 : g0 = (insOf m).x p := by rw [h0]; unfold Dat.before; rw [if_pos (fetch0_0 t₀)]; rfl
  have e1 : g1 = (insOf m).w1 p := by rw [h1]; unfold Dat.before; rw [if_pos (fetch0_1 t₀)]; rfl
  have e2 : g2 = (insOf m).w2 p := by rw [h2]; unfold Dat.before; rw [if_pos (fetch0_2 t₀)]; rfl
  subst e0; subst e1; subst e2
  unfold Dat.owesAt Pipeline.owesWithin
  icases Ho with ⟨%W, %hW, HO⟩
  rw [show (dats m 0 p).owed t₀.castSucc = tallyL (duesAll p) from rfl]
  iapply (body_run (insOf m) p g3 fun _ => bodyPost m p) $$ [HK Hb Hs Hx Hw1 Hw2 Hout HO]
  · isplitl [HK]; · iexact HK
    isplitl [Hb]; · iexact Hb
    isplitl [Hs]; · iexact Hs
    isplitl [Hx]; · unfold xPts; iexact Hx
    isplitl [Hw1 Hw2]
    · unfold wts
      isplitl [Hw1]; · iexact Hw1
      iexact Hw2
    isplitl [Hout]; · unfold oPts; iexact Hout
    unfold ow; iexists W; iexact HO
  unfold bodyPost Φ₁ Dat.owesAt Pipeline.owesWithin xPts wts oPts ow
  rw [show (dats m 0 p).owed t₀.succ = 0 from rfl]
  iintro ⟨Hs, Hz, Hx, ⟨Hw1, Hw2⟩, Hout, ⟨%W', HO⟩⟩
  isplitl [Hs Hz]
  · isplitl [Hs] <;> iassumption
  isplitl [HO]
  · iexists W'
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  iexact Hout

theorem body_obligation : BodyObligation (dats (F := F) m 0 p) (defs₀ (F := F)) 𝒱₀ 0 Set.univ := fun t => by
  rw [fin_N0 t]
  rw [bigSep_W, bigSep_W]
  simp only [owns_whole_eq]
  exact body_sound m p

/-! ## The launch -/

theorem share_eq (w : Fin cfg0.W) : (dats m 0 p).share w = fullShare := by unfold Dat.share; split <;> rfl

def u₀ : UU :=
  (initOf (Pipeline.cells cfgs cellOf_inj) (Pipeline.launchToks cfgs cellOf_inj), (initOf cellsK toksK, initSlots keys 1))

theorem start_intro :
    iprop(Pipeline.unscopedRestP Pipeline.Prefetch.none cfg0.spec p (fun b => m ((p : Thread nD τ).loc b)) ∗ levAts (L 19) lv
        ∗ Pipeline.launchCred (fun d => tallyL (duesAll d)) p ∗ prngReg p (ρ p) ∗ known (insOf m) ∗ hand p)
      ⊢ (|={Set.univ}=> ((Know (insOf m) ∗ beg p) ∗ emp) : sProp 𝕄) := by
  iintro ⟨-, Hl, Hc, -, #HK, Hh⟩
  imodintro
  isplitl
  · isplitl [Hl]
    · iapply (know_of (insOf m))
      isplitr; · iexact HK
      unfold Lev; iexact Hl
    · iapply (start_beg (insOf m) p)
      isplitr; · iexact HK
      isplitl [Hh] <;> iassumption
  · iempintro

theorem phi0_intro :
    iprop((Know (insOf m) ∗ beg p) ∗ Pipeline.prefHeld Pipeline.Prefetch.none p (fun _ => fullShare.right) (fun k => k.elim0) ∗ Pipeline.scopedRest cfg0.spec p)
      ⊢ (dats (F := F) m 0 p).Φ 0 := by
  rw [show (dats m 0 p).Φ 0 = Φ₀ m p from rfl, whole_slots]
  unfold Φ₀
  iintro ⟨Hs, -, Hr⟩
  isplitl [Hs] <;> iassumption

theorem phi1_exit :
    (dats (F := F) m 0 p).Φ (Fin.last cfg0.N) ⊢ iprop(unscopedSems0 p ∗ Pipeline.ownSems0 osem p ∗ Pipeline.scopedRest cfg0.spec p) := by
  rw [show (dats m 0 p).Φ (Fin.last cfg0.N) = Φ₁ p from rfl, whole_slots]
  unfold Φ₁ closed
  rw [sems0_eq]
  iintro ⟨Hr, Ho, Hu⟩
  isplitl [Hu]; · iexact Hu
  isplitl [Ho] <;> iassumption

theorem lo_first : Lo 1 (duesAll p) :=
  Lo.cons ⟨rfl, Nat.le_refl 1, by show 1 < 19; decide⟩ (Lo.cons ⟨rfl, Nat.le_refl 1, by show 1 < 19; decide⟩ ((lo_all p).mono (by decide)))

/-- A wait for a window's copy, before the body and after it. -/
theorem stage_wait (sm : SemLoc sig) (O : CellTallies nD τ sig ℕ) (hO : O = tallyL (duesAll p) ∨ O = 0) :
    (levAts (L 19) lv : sProp 𝕄) ⊢ MayWait (p : Thread nD τ) sm 0 O := by
  refine Idealize.ShloMosaic.SiteBlocks.mayWait_of (show 0 < 19 by decide) p sm O fun g k h => ?_
  rcases hO with rfl | rfl
  · obtain ⟨x, hx, hg, hk⟩ := Idealize.ShloMosaic.TalkSites.tallyL_pos h
    obtain ⟨h1, h2, h3⟩ := lo_first p x hx
    rw [← hg] at h1; rw [← hk] at h2 h3
    exact ⟨Idealize.ShloMosaic.SiteBlocks.mem_L' h1 h3, h2⟩
  · exact absurd h (Nat.lt_irrefl 0)

theorem owed_or (t : Fin (cfg0.N + 1)) : (dats (F := F) m 0 p).owed t = tallyL (duesAll p) ∨ (dats (F := F) m 0 p).owed t = 0 := by
  rcases t with ⟨_ | _, ht⟩
  · exact Or.inl rfl
  · exact Or.inr rfl

theorem waits : (levAts (L 19) lv : sProp 𝕄) ⊢ Pipeline.cellsWaits cfgs (dats m) 0 0 p :=
  Pipeline.cellsWaits_intro cfgs (dats m) 0 0 p fun w s t => stage_wait p _ _ (owed_or m p t)

/-- The physical post: every array holds what the windows' write-backs leave in it. -/
def QC : PUnit × MemSt nD τ sig (Elt F) → Prop := fun r =>
  ∀ p : Dev nD, ∀ w : Fin cfg0.W, r.2.mem ((cfg0.win w).arr.view.loc (p : Thread nD τ)) = (dats m 0 p).arrAt w cfg0.N

/-- From any memory with zero counters every weakly fair execution of the sixteen kernels terminates, with every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => tallyL (duesAll d)) (howed₀ := fun _ => rfl) (howedN := fun _ => rfl)
    (L := L 19) (lv := lv) (hL := Idealize.ShloMosaic.SiteBlocks.hL 19) (hwaits := waits m)
    (G := minted (insOf m)) (G' := fun d => iprop(known (insOf m) ∗ hand d)) (u₀ := u₀)
    (hu₀ := by
      unfold u₀
      iintro Hu
      ihave H := (ownU_pair _ _) $$ Hu
      icases H with ⟨HP, HX⟩
      ihave H := (own_pair_emb embR _ _) $$ HX
      imod (mint_all (insOf m)) $$ H with HG
      imodintro
      isplitl [HP] <;> iassumption)
    (hglob := glob (insOf m))
    (hA := fun _ _ => rfl) (hpf := fun _ k => k.elim0)
    (X := fun d => iprop(Know (insOf m) ∗ beg d)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_in (w : Fin cfg0.W) (h : (cfg0.win w).flush t₀ = false) : (dats m 0 p).arrAt w cfg0.N = m ((cfg0.win w).arr.view.loc (p : Thread nD τ)) := by
  rw [show cfg0.N = ((0 : Fin 1) : Fin cfg0.N).val + 1 from rfl, (dats m 0 p).arrAt_succ w (0 : Fin 1)]
  rw [h]; rfl

theorem final_out : (win0_3.blk (0 : Fin 1)).view.read (Elt F) ((dats m 0 p).arrAt (3 : Fin 4) cfg0.N) = outV (insOf m) p := by
  rw [show cfg0.N = ((0 : Fin 1) : Fin cfg0.N).val + 1 from rfl, (dats m 0 p).arrAt_succ (3 : Fin 4) (0 : Fin 1)]
  rw [show (cfg0.win (3 : Fin 4)).flush (0 : Fin 1) = true from flush0_3 _, if_pos rfl]
  exact View.read_write_univ _ _

/-- Read through its one block, an array is the array. -/
theorem blk_arg0 (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem blk_arg1 (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem blk_arg2 (f : main_arg2.ty.Contents (Elt F)) : (win0_2.blk (0 : Fin 1)).view.read (Elt F) f = f :=
  Memref.read_access_unit_zero (Elt F) main_arg2 (funext fun a => by fin_cases a <;> decide) (fun a => by fin_cases a <;> decide) f
theorem blk_out (f : main_v1.ty.Contents (Elt F)) : (win0_3.blk (0 : Fin 1)).view.read (Elt F) f = f :=
  Memref.read_access_unit_zero (Elt F) main_v1 (funext fun a => by fin_cases a <;> decide) (fun a => by fin_cases a <;> decide) f

/-- The three argument arrays as launched. -/
def argsOf : Ins F where
  x d := m ((d : Thread nD τ).loc main_arg0)
  w1 d := m ((d : Thread nD τ).loc main_arg1)
  w2 d := m ((d : Thread nD τ).loc main_arg2)

theorem insOf_eq : insOf m = argsOf m := by
  unfold insOf argsOf
  congr 1 <;> funext d
  · exact blk_arg0 _
  · exact blk_arg1 _
  · exact blk_arg2 _

/-- The run, read at the program's arrays. -/
theorem run_read : θ_run defs (onTc (τ := τ) (main (F := F))) ⟨m, fun _ => 0, ρ⟩ (fun r =>
    (∀ d : Dev nD, r.2.mem ((d : Thread nD τ).loc main_v1) = outV (argsOf m) d
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2))
    ∧ r.2.sem = fun _ => 0) :=
  (θ_run defs _ _).mono (fun r h => ⟨fun d =>
      ⟨(h.1 d (3 : Fin 4)).trans (by rw [← insOf_eq, ← final_out, blk_out]), (h.1 d (0 : Fin 4)).trans (final_in m d _ (by decide)),
        (h.1 d (1 : Fin 4)).trans (final_in m d _ (by decide)), (h.1 d (2 : Fin 4)).trans (final_in m d _ (by decide))⟩, h.2⟩)
    (run_main m ρ)

end Cert.AgRs

end
-- ==== Proof.Frames.lean ====
/-
  The frames: every run of the three programs ends, with the arguments unchanged and every semaphore at zero.
-/
module

public import proofs.«01_k».proof.Defs
public import proofs.«01_k».proof.Proof.Gen.Kernel
public import proofs.«01_k».proof.Proof.Run
public import proofs.«01_k».proof.Proof.Ref

@[expose] public section

set_option maxRecDepth 65536

noncomputable section

namespace Cert.AgRs

open Idealize.ShloMosaic Idealize.SL.Sem

/-! The kernel and its idealization have one text. -/

theorem defs₀_same : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | ⟨0, _⟩, (t, s) => exact rfl
theorem defs_same : @Cert.Kernel.defs Bits _ _ = @Cert.KernelIdeal.defs Bits _ _ := by
  unfold Cert.Kernel.defs Cert.KernelIdeal.defs
  exact congrArg (Pipeline.defs _) defs₀_same

/-- What holds of the idealization's run at any floats holds of the kernel's. -/
theorem frame_kernel : Cert.quiescent_Kernel := by
  intro m g _
  have key : ∀ D, D = Cert.KernelIdeal.defs (F := Bits) →
      θ_run D (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) := by
    rintro _ rfl
    exact (θ_run (Cert.KernelIdeal.defs (F := Bits)) _ _).mono (fun _ h => ⟨fun c => (h.1 c).2, h.2⟩) (run_read (F := Bits) m g)
  exact key (Cert.Kernel.defs (F := Bits)) defs_same

theorem frame_ideal : Cert.quiescent_KernelIdeal := by
  intro m g _
  exact (θ_run (Cert.KernelIdeal.defs (F := Ideal)) _ _).mono (fun _ h => ⟨fun c => (h.1 c).2, h.2⟩) (run_read (F := Ideal) m g)

theorem frame_reference : Cert.quiescent_ReferenceIdeal := by
  intro m g _
  exact (θ_run (Cert.ReferenceIdeal.defs (F := Ideal)) _ _).mono (fun r h => ⟨fun c => (h c).2, Idealize.ShloMosaic.sem_eq_zero_of_no_sems (by decide) r.2⟩)
    (Ref.run_main (F := Ideal) m g)

end Cert.AgRs

end
-- ==== Proof.Algebraic.lean ====
/-
  The algebraic claim: from blocks of the whole arguments, every device ends with its block of the reference's result.
-/
module

public import proofs.«01_k».proof.Proof.RefValue
public import proofs.«01_k».proof.Proof.Frames

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)
/-- Over the extended reals, device `c`'s result is block `c` of the reference's result. -/
theorem algebraic : Cert.algebraic_KernelIdeal_ReferenceIdeal := by
  intro m g m' g' _ hm
  have B : Blocks (argsOf m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    blocks_of (fun d => (hm d).1) (fun d => (hm d).2.1) (fun d => (hm d).2.2)
  refine ⟨_, (θ_run Cert.KernelIdeal.defs _ _).mono (fun _ h c => ?_) (run_read m g), (θ_run Cert.ReferenceIdeal.defs _ _).mono (fun _ h => h 0) (Ref.run_main m' g')⟩
  have hc := h.1 c
  exact ⟨hc.1.trans (out_eq_block B c), hc.2.1, hc.2.2.1, hc.2.2.2⟩

end Cert.AgRs
end
-- ==== Proof.Clip.lean ====
/-
  The run of the reference with the clip of the exponent: the value its operations leave in the result array.
-/
module

public import proofs.«01_k».proof.Defs
public import proofs.«01_k».proof.Proof.Gen.ClippedIdeal
public import Idealize.ShloMosaic.Lib.StableHlo.Run

@[expose] public section

set_option maxRecDepth 8000

noncomputable section

namespace Cert.AgRs.Clip

open Cert.ClippedIdeal Cert.ClippedIdeal.Gen
open Idealize.ShloMosaic Idealize.ShloMosaic.TcCoe Idealize.ShloMosaic.StableHlo Idealize.SL.Sem

variable {F : FTy → Type} [FloatOps F]

/-- `x · W1`, the whole of it. -/
def hid (x : FVec F S16384x1024 .bf16) (w1 : FVec F S1024x65536 .bf16) : FVec F S16384x65536 .f32 :=
  Host.dotGeneral dot_S16384x1024_S1024x65536_S16384x65536_1_0_0_1_n_n none (extf .f32 x bitsLt_bf16_f32) (extf .f32 w1 bitsLt_bf16_f32)

/-- The hidden layer clipped at ±60. -/
def clip (h : FVec F S16384x65536 .f32) : FVec F S16384x65536 .f32 :=
  minimumf (broadcastInDim S16384x65536 ![] bcast_S_S16384x65536 (sitofp .f32 (constantI S_ 32 60#32)))
    (maximumf (broadcastInDim S16384x65536 ![] bcast_S_S16384x65536 (sitofp .f32 (constantI S_ 32 4294967236#32))) h)

/-- The hidden layer through its gate, whose exponent is clipped. -/
def gate (h : FVec F S16384x65536 .f32) : FVec F S16384x65536 .f32 :=
  Host.divf h (addf (broadcastInDim S16384x65536 ![] bcast_S_S16384x65536 (constant S_ .f32 0x3F800000#32)) (Host.exp (Host.negf (clip h))))

/-- The reference's result. -/
def refOut (x : FVec F S16384x1024 .bf16) (w1 : FVec F S1024x65536 .bf16) (w2 : FVec F S65536x1024 .bf16) : FVec F S16384x1024 .f32 :=
  Host.dotGeneral dot_S16384x65536_S65536x1024_S16384x1024_1_0_0_1_n_n none (gate (hid x w1)) (extf .f32 w2 bitsLt_bf16_f32)

/-- @main's operations, in order. -/
abbrev ops : List (HloOp τ sig (Elt F)) :=
  [ unary main_arg0 main_v0 ((extf .f32 · bitsLt_bf16_f32) : (⟨S16384x1024, .bf16⟩ : BufTy).Contents (Elt F) → (⟨S16384x1024, .f32⟩ : BufTy).Contents (Elt F)),
    unary main_arg1 main_v1 ((extf .f32 · bitsLt_bf16_f32) : (⟨S1024x65536, .bf16⟩ : BufTy).Contents (Elt F) → (⟨S1024x65536, .f32⟩ : BufTy).Contents (Elt F)),
    unary main_arg2 main_v2 ((extf .f32 · bitsLt_bf16_f32) : (⟨S65536x1024, .bf16⟩ : BufTy).Contents (Elt F) → (⟨S65536x1024, .f32⟩ : BufTy).Contents (Elt F)),
    binary main_v0 main_v1 main_v3 ((fun l r => Host.dotGeneral dot_S16384x1024_S1024x65536_S16384x65536_1_0_0_1_n_n none l r) : (⟨S16384x1024, .f32⟩ : BufTy).Contents (Elt F) → (⟨S1024x65536, .f32⟩ : BufTy).Contents (Elt F) → (⟨S16384x65536, .f32⟩ : BufTy).Contents (Elt F)),
    nullary main_c (constantI S_ 32 4294967236#32),
    nullary main_c_0 (constantI S_ 32 60#32),
    unary main_c main_call0_v0 (sitofp .f32 : (⟨S_, .i32⟩ : BufTy).Contents (Elt F) → (⟨S_, .f32⟩ : BufTy).Contents (Elt F)),
    unary main_call0_v0 main_call0_v1 (broadcastInDim S16384x65536 ![] bcast_S_S16384x65536 : (⟨S_, .f32⟩ : BufTy).Contents (Elt F) → (⟨S16384x65536, .f32⟩ : BufTy).Contents (Elt F)),
    binary main_call0_v1 main_v3 main_call0_v2 (maximumf : (⟨S16384x65536, .f32⟩ : BufTy).Contents (Elt F) → (⟨S16384x65536, .f32⟩ : BufTy).Contents (Elt F) → (⟨S16384x65536, .f32⟩ : BufTy).Contents (Elt F)),
    unary main_c_0 main_call0_v3 (sitofp .f32 : (⟨S_, .i32⟩ : BufTy).Contents (Elt F) → (⟨S_, .f32⟩ : BufTy).Contents (Elt F)),
    unary main_call0_v3 main_call0_v4 (broadcastInDim S16384x65536 ![] bcast_S_S16384x65536 : (⟨S_, .f32⟩ : BufTy).Contents (Elt F) → (⟨S16384x65536, .f32⟩ : BufTy).Contents (Elt F)),
    binary main_call0_v4 main_call0_v2 main_v4 (minimumf : (⟨S16384x65536, .f32⟩ : BufTy).Contents (Elt F) → (⟨S16384x65536, .f32⟩ : BufTy).Contents (Elt F) → (⟨S16384x65536, .f32⟩ : BufTy).Contents (Elt F)),
    unary main_v4 main_v5 (Host.negf : (⟨S16384x65536, .f32⟩ : BufTy).Contents (Elt F) → (⟨S16384x65536, .f32⟩ : BufTy).Contents (Elt F)),
    unary main_v5 main_v6 (Host.exp : (⟨S16384x65536, .f32⟩ : BufTy).Contents (Elt F) → (⟨S16384x65536, .f32⟩ : BufTy).Contents (Elt F)),
    nullary main_cst (constant S_ .f32 0x3F800000#32),
    unary main_cst main_v7 (broadcastInDim S16384x65536 ![] bcast_S_S16384x65536 : (⟨S_, .f32⟩ : BufTy).Contents (Elt F) → (⟨S16384x65536, .f32⟩ : BufTy).Contents (Elt F)),
    binary main_v7 main_v6 main_v8 (addf : (⟨S16384x65536, .f32⟩ : BufTy).Contents (Elt F) → (⟨S16384x65536, .f32⟩ : BufTy).Contents (Elt F) → (⟨S16384x65536, .f32⟩ : BufTy).Contents (Elt F)),
    binary main_v3 main_v8 main_v9 (Host.divf : (⟨S16384x65536, .f32⟩ : BufTy).Contents (Elt F) → (⟨S16384x65536, .f32⟩ : BufTy).Contents (Elt F) → (⟨S16384x65536, .f32⟩ : BufTy).Contents (Elt F)),
    binary main_v9 main_v2 main_v10 ((fun l r => Host.dotGeneral dot_S16384x65536_S65536x1024_S16384x1024_1_0_0_1_n_n none l r) : (⟨S16384x65536, .f32⟩ : BufTy).Contents (Elt F) → (⟨S65536x1024, .f32⟩ : BufTy).Contents (Elt F) → (⟨S16384x1024, .f32⟩ : BufTy).Contents (Elt F)) ]

theorem main_eq (c : Dev nD) : main (F := F) c = seq ops := rfl

theorem out_eq (V : Valuation τ sig (Elt F)) :
    after ops V (main_v10 : DevRef τ sig) = refOut (V (main_arg0 : DevRef τ sig)) (V (main_arg1 : DevRef τ sig)) (V (main_arg2 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., binary_bufs_sub .., binary_bufs_sub ..⟩

/-- Every run of that reference ends with the result array at `refOut` of the arguments, which are unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v10)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v10).trans (out_eq _), (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.AgRs.Clip

end
-- ==== Proof.ClipValue.lean ====
/-
  The reference with the clip of the exponent agrees with the one without it in every row of which no hidden value meets the clip; the algebraic claim for that reference, at the elements of such rows.
-/
module

public import proofs.«01_k».proof.Proof.Algebraic
public import proofs.«01_k».proof.Proof.Clip
public import proofs.«01_k».proof.Proof.Gen.On_within
public import Idealize.ShloMosaic.Lib.ReduceAll

@[expose] public section

set_option maxRecDepth 8000

noncomputable section

namespace Cert.AgRs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.SiteBlocks (L lv)
open Idealize.ShloMosaic.TalkSites (Pay tallyL)

variable {F : FTy → Type} [FloatOps F]

local notation "𝕄" => MT nD τ sig ℕ (Elt F) ℕ UU ℕ

variable (I : Ins F)
open Idealize.ShloMosaic.ValueIdx

/-- The mask's bound is sixty. -/
theorem sixty_word : Ideal.ofBits .f32 0x42700000#32 = ((60 : ℝ) : EReal) := by
  simp [Ideal.ofBits, Ideal.ieee, -EReal.coe_mul]; norm_num

/-- A value of magnitude at most sixty is its own clip. -/
theorem clip_self (h : EReal) (hm : max h (-h) ≤ ((60 : ℝ) : EReal)) : min ((60 : ℝ) : EReal) (max ((-60 : ℝ) : EReal) h) = h := by
  have h1 : h ≤ ((60 : ℝ) : EReal) := le_trans (le_max_left _ _) hm
  have h2 : ((-60 : ℝ) : EReal) ≤ h := by
    rw [EReal.coe_neg]
    exact EReal.neg_le.mp (le_trans (le_max_right _ _) hm)
  rw [max_eq_right h2, min_eq_right h1]

variable (X : FVec Ideal Cert.ReferenceIdeal.S16384x1024 .bf16) (W : FVec Ideal Cert.ReferenceIdeal.S1024x65536 .bf16)
  (V : FVec Ideal Cert.ReferenceIdeal.S65536x1024 .bf16)

/-- The upper bound of the clip. -/
theorem sixty_int : (((60#32 : BitVec 32).toInt : ℝ) : EReal) = ((60 : ℝ) : EReal) := by
  rw [show (60#32 : BitVec 32).toInt = 60 by decide]; norm_num

/-- The lower bound of the clip. -/
theorem minus_sixty_int : (((4294967236#32 : BitVec 32).toInt : ℝ) : EReal) = ((-60 : ℝ) : EReal) := by
  rw [show (4294967236#32 : BitVec 32).toInt = -60 by decide]; norm_num

/-- The clip, read at an element. -/
theorem clip_apply (h : FVec Ideal Cert.ReferenceIdeal.S16384x65536 .f32) (i : Cert.ReferenceIdeal.S16384x65536.Idx) :
    Clip.clip h i = min ((60 : ℝ) : EReal) (max ((-60 : ℝ) : EReal) (h i)) := by
  rw [← sixty_int, ← minus_sixty_int]; rfl

/-- Where the clip changes nothing the two gates are the same. -/
theorem clip_gate (h : FVec Ideal Cert.ReferenceIdeal.S16384x65536 .f32) (i : Cert.ReferenceIdeal.S16384x65536.Idx)
    (hm : max (h i) (-(h i)) ≤ ((60 : ℝ) : EReal)) : Clip.gate h i = silu (h i) := by
  show Ideal.div (h i) (Ideal.ofBits .f32 0x3F800000#32 + Ideal.exp (-(Clip.clip h i))) = _
  rw [one_word, clip_apply, clip_self _ hm]; rfl

/-- In a row without clipped values the two references agree. -/
theorem clip_row (r : Fin 16384) (c : Fin 1024)
    (hm : ∀ f : Fin 65536, max (Ref.hid X W (ix2 r f)) (-(Ref.hid X W (ix2 r f))) ≤ ((60 : ℝ) : EReal)) :
    Clip.refOut X W V (ix2 r c) = Ref.refOut X W V (ix2 r c) := by
  rw [refOut_apply]
  refine (StackMember.dotGeneral_plain_apply (m := 16384) (n := 1024) (k := 65536) (φ₁ := .f32) (φ₂ := .f32) none _ _ r c).trans ?_
  refine Finset.sum_congr rfl fun f _ => congrArg (· * _) ?_
  exact (clip_gate (Ref.hid X W) _ (hm f)).trans (congrArg silu (hid_apply X W r f))

/-- The mask selects an element only if its row has no clipped value. -/
theorem within_row (r : Fin 16384) (c : Fin 1024) (e : Cert.On_within.fn (F := Ideal) X W V (ix2 r c) = 1#1) (f : Fin 65536) :
    max (Ref.hid X W (ix2 r f)) (-(Ref.hid X W (ix2 r f))) ≤ ((60 : ℝ) : EReal) := by
  unfold Cert.On_within.fn at e
  have key := Host.reduce_andi_eq_one _ _ _ _ _ e (ix2 r f) (funext fun a => Fin.ext (by
    match a with
    | ⟨0, _⟩ => rfl))
  rw [← sixty_word]
  have k2 : BitVec.ofBool (decide (max (Ref.hid X W (ix2 r f)) (-(Ref.hid X W (ix2 r f))) ≤ Ideal.ofBits .f32 0x42700000#32)) = 1#1 := key
  by_contra hn
  rw [decide_eq_false hn] at k2
  exact absurd k2 (by decide)

variable {X W V}

/-- At the elements that the mask selects the two references agree. -/
theorem clip_eq (i : Cert.ReferenceIdeal.S16384x1024.Idx) (e : Cert.On_within.fn (F := Ideal) X W V i = 1#1) :
    Ref.refOut X W V i = Clip.refOut X W V i := by
  obtain ⟨r, c, rfl⟩ : ∃ r c, i = ix2 r c := ⟨i 0, i 1, eq_ix2 i⟩
  exact (clip_row X W V r c (within_row X W V r c e)).symm

/-- The clipped reference runs and leaves its arguments as they were. -/
theorem frame_clipped : Cert.quiescent_ClippedIdeal := by
  intro m g _
  exact (θ_run (Cert.ClippedIdeal.defs (F := Ideal)) _ _).mono (fun r h => ⟨fun c => (h c).2, Idealize.ShloMosaic.sem_eq_zero_of_no_sems (by decide) r.2⟩)
    (Clip.run_main (F := Ideal) m g)

/-- Over the extended reals, device `c`'s result is block `c` of the clipped reference's result, at the elements of rows without clipped values. -/
theorem algebraic_clipped : Cert.algebraic_KernelIdeal_ClippedIdeal_on_within := by
  intro m g m' g' _ hm
  have B : Blocks (argsOf m) (m' (((0 : Dev Cert.ClippedIdeal.nD).tc : Thread Cert.ClippedIdeal.nD Cert.ClippedIdeal.τ).loc Cert.ClippedIdeal.main_arg0))
      (m' (((0 : Dev Cert.ClippedIdeal.nD).tc : Thread Cert.ClippedIdeal.nD Cert.ClippedIdeal.τ).loc Cert.ClippedIdeal.main_arg1))
      (m' (((0 : Dev Cert.ClippedIdeal.nD).tc : Thread Cert.ClippedIdeal.nD Cert.ClippedIdeal.τ).loc Cert.ClippedIdeal.main_arg2)) :=
    blocks_of (fun d => (hm d).1) (fun d => (hm d).2.1) (fun d => (hm d).2.2)
  refine ⟨_, (θ_run Cert.KernelIdeal.defs _ _).mono (fun _ h c => ?_) (run_read m g), (θ_run Cert.ClippedIdeal.defs _ _).mono (fun _ h => ⟨fun i _ => congrFun (h 0).1 i, (h 0).2⟩) (Clip.run_main m' g')⟩
  have hc := h.1 c
  refine ⟨fun i e => ?_, hc.2.1, hc.2.2.1, hc.2.2.2⟩
  refine (congrFun (hc.1.trans (out_eq_block B c)) i).trans ?_
  exact clip_eq _ e

end Cert.AgRs
end
-- ==== Proof.lean ====
/-
  The proof of `Cert.Claim`: the frames of the kernel, of its idealization and of the two references (with and without the clip of the exponent), that the idealization is the kernel's own text, and that each device computes its block of the reference's result; with the clip, at the elements of rows in which no hidden value meets it.
-/
module

public import proofs.«01_k».proof.Defs
public import proofs.«01_k».proof.Proof.ClipValue

@[expose] public section

noncomputable section

namespace Cert.Proof

theorem claim : Cert.Claim :=
  ⟨Cert.Kernel.Gen.facts, Cert.KernelIdeal.Gen.facts, Cert.ReferenceIdeal.Gen.facts, Cert.ClippedIdeal.Gen.facts, Cert.On_within.Gen.facts,
    Cert.AgRs.frame_kernel, Cert.AgRs.frame_ideal, Cert.AgRs.frame_reference, Cert.AgRs.frame_clipped,
    trivial, Cert.AgRs.algebraic, Cert.AgRs.algebraic_clipped⟩

end Cert.Proof

end
